-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_spread_out [hPre_spread_out : Cert.Pre_spread_out.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_spread_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_spread_out [hPre_spread_out : Cert.Pre_spread_out.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_spread_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_spread_out [hKernel2Ideal : Cert.Kernel2Ideal.Facts] [hPre_spread_out : Cert.Pre_spread_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_spread_out m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_spread_out [hReference2Ideal : Cert.Reference2Ideal.Facts] [hPre_spread_out : Cert.Pre_spread_out.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_spread_out m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_spread_out [hKernel2Ideal : Cert.Kernel2Ideal.Facts] [hReference2Ideal : Cert.Reference2Ideal.Facts] [hPre_spread_out : Cert.Pre_spread_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_spread_out m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_spread_out : Cert.Pre_spread_out.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_spread_out (hKernel2Ideal := hKernel2Ideal) (hPre_spread_out := hPre_spread_out)
    ∧ quiescent_Reference2Ideal (hReference2Ideal := hReference2Ideal)
    ∧ quiescent_Reference2Ideal_pre_spread_out (hReference2Ideal := hReference2Ideal) (hPre_spread_out := hPre_spread_out)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_spread_out (hKernel2Ideal := hKernel2Ideal) (hReference2Ideal := hReference2Ideal) (hPre_spread_out := hPre_spread_out)
-- ==== Pre_spread_out.lean ====
abbrev S16x8192x3 : Shape := ⟨3, ![16, 8192, 3]⟩
abbrev S16x8192x128 : Shape := ⟨3, ![16, 8192, 128]⟩
abbrev S16x512x3 : Shape := ⟨3, ![16, 512, 3]⟩
abbrev S16x512x1x3 : Shape := ⟨4, ![16, 512, 1, 3]⟩
abbrev S16x1x8192x3 : Shape := ⟨4, ![16, 1, 8192, 3]⟩
abbrev S16x512x8192x3 : Shape := ⟨4, ![16, 512, 8192, 3]⟩
abbrev S_ : Shape := ⟨0, ![]⟩
abbrev S16x512x8192 : Shape := ⟨3, ![16, 512, 8192]⟩
abbrev S16x512x16 : Shape := ⟨3, ![16, 512, 16]⟩
abbrev S16x512x1 : Shape := ⟨3, ![16, 512, 1]⟩
abbrev S16x512x64x128 : Shape := ⟨4, ![16, 512, 64, 128]⟩
abbrev S16x512x128 : Shape := ⟨3, ![16, 512, 128]⟩

class Facts : Prop where
  bcast_S16x512x3_S16x512x1x3_0_1_3 : S16x512x3.BroadcastsInDim S16x512x1x3 (![0, 1, 3] : Fin 3 → Fin S16x512x1x3.rank)
  bcast_S16x8192x3_S16x1x8192x3_0_2_3 : S16x8192x3.BroadcastsInDim S16x1x8192x3 (![0, 2, 3] : Fin 3 → Fin S16x1x8192x3.rank)
  bcast_S16x512x1x3_S16x512x8192x3_0_1_2_3 : S16x512x1x3.BroadcastsInDim S16x512x8192x3 (![0, 1, 2, 3] : Fin 4 → Fin S16x512x8192x3.rank)
  bcast_S16x1x8192x3_S16x512x8192x3_0_1_2_3 : S16x1x8192x3.BroadcastsInDim S16x512x8192x3 (![0, 1, 2, 3] : Fin 4 → Fin S16x512x8192x3.rank)
  reducesTo_S16x512x8192x3_S16x512x8192_d3 : S16x512x8192x3.ReducesTo [3] S16x512x8192
  h_S_ : 0 < S_.numel
  sliceFits_S16x512x8192_S16x512x16 : S16x512x8192.Slices (fun _ => 0) S16x512x16
  slices_S16x512x16_S16x512x1_0_0_15 : S16x512x16.Slices ![0, 0, 15] S16x512x1
  bcast_S16x512x1_S16x512x8192_0_1_2 : S16x512x1.BroadcastsInDim S16x512x8192 (![0, 1, 2] : Fin 3 → Fin S16x512x8192.rank)
  shapeCasts_S16x512x8192_S16x512x64x128 : S16x512x8192.ShapeCasts S16x512x64x128
  natLt_1_32 : 1 < 32
  reducesTo_S16x512x64x128_S16x512x128_d2 : S16x512x64x128.ReducesTo [2] S16x512x128
  bcast_S_S16x512x128 : S_.BroadcastsInDim S16x512x128 (![] : Fin 0 → Fin S16x512x128.rank)
  bcast_S_S16x512x1 : S_.BroadcastsInDim S16x512x1 (![] : Fin 0 → Fin S16x512x1.rank)
  bcast_S16x512x1_S16x512x128_0_1_2 : S16x512x1.BroadcastsInDim S16x512x128 (![0, 1, 2] : Fin 3 → Fin S16x512x128.rank)

variable [Facts]

def fn_part1 {F : FTy → Type} [FloatOps F] (main_v9 : FVec F S16x512x1 .f32) (main_v16 : IVec S16x512x128 1) (main_v17 : FVec F S16x512x1 .f32) : IVec S16x512x128 1 :=
  let main_v18 : IVec S16x512x1 1 := cmpf .olt main_v9 main_v17
  let main_v19 : IVec S16x512x128 1 := broadcastInDim S16x512x128 ![0, 1, 2] bcast_S16x512x1_S16x512x128_0_1_2 main_v18
  let main_v20 : IVec S16x512x128 1 := andi main_v16 main_v19
  main_v20

def fn {F : FTy → Type} [FloatOps F] (main_arg0 : FVec F S16x8192x3 .f32) (main_arg1 : FVec F S16x8192x128 .f32) (main_arg2 : FVec F S16x512x3 .f32) : IVec S16x512x128 1 :=
  let main_v0 : FVec F S16x512x1x3 .f32 := broadcastInDim S16x512x1x3 ![0, 1, 3] bcast_S16x512x3_S16x512x1x3_0_1_3 main_arg2
  let main_v1 : FVec F S16x1x8192x3 .f32 := broadcastInDim S16x1x8192x3 ![0, 2, 3] bcast_S16x8192x3_S16x1x8192x3_0_2_3 main_arg0
  let main_v2 : FVec F S16x512x8192x3 .f32 := broadcastInDim S16x512x8192x3 ![0, 1, 2, 3] bcast_S16x512x1x3_S16x512x8192x3_0_1_2_3 main_v0
  let main_v3 : FVec F S16x512x8192x3 .f32 := broadcastInDim S16x512x8192x3 ![0, 1, 2, 3] bcast_S16x1x8192x3_S16x512x8192x3_0_1_2_3 main_v1
  let main_v4 : FVec F S16x512x8192x3 .f32 := subf main_v2 main_v3
  let main_v5 : FVec F S16x512x8192x3 .f32 := mulf main_v4 main_v4
  let main_cst : FVec F S_ .f32 := constant S_ .f32 0x00000000#32
  let main_v6 : FVec F S16x512x8192 .f32 := (fun x v => Host.reduceAdd x v reducesTo_S16x512x8192x3_S16x512x8192_d3 h_S_) main_v5 main_cst
  let main_v7 : FVec F S16x512x8192 .f32 := Host.negf main_v6
  let main_values : FVec F S16x512x16 .f32 := (fun x => (Host.topK S16x512x16 2 (FloatOps.cmpfTotal .gt) x sliceFits_S16x512x8192_S16x512x16).1) main_v7
  let main_indices : IVec S16x512x16 32 := (fun x => (Host.topK S16x512x16 2 (FloatOps.cmpfTotal .gt) x sliceFits_S16x512x8192_S16x512x16).2) main_v7
  let main_v8 : FVec F S16x512x1 .f32 := (extractStridedSlice S16x512x1 ![0, 0, 15] · slices_S16x512x16_S16x512x1_0_0_15) main_values
  let main_v9 : FVec F S16x512x1 .f32 := Host.negf main_v8
  let main_v10 : FVec F S16x512x8192 .f32 := broadcastInDim S16x512x8192 ![0, 1, 2] bcast_S16x512x1_S16x512x8192_0_1_2 main_v9
  let main_v11 : IVec S16x512x8192 1 := cmpf .ole main_v6 main_v10
  let main_v12 : IVec S16x512x64x128 1 := shapeCast S16x512x64x128 main_v11 shapeCasts_S16x512x8192_S16x512x64x128
  let main_v13 : IVec S16x512x64x128 32 := (extui 32 · natLt_1_32) main_v12
  let main_c : IVec S_ 32 := constantI S_ 32 0#32
  let main_v14 : IVec S16x512x128 32 := (fun x v => Host.reduce IntOp.addi x v reducesTo_S16x512x64x128_S16x512x128_d2 h_S_) main_v13 main_c
  let main_c_0 : IVec S_ 32 := constantI S_ 32 5#32
  let main_v15 : IVec S16x512x128 32 := broadcastInDim S16x512x128 ![] bcast_S_S16x512x128 main_c_0
  let main_v16 : IVec S16x512x128 1 := cmpi .sle main_v14 main_v15
  let main_cst_1 : FVec F S_ .f32 := constant S_ .f32 0x7F800000#32
  let main_v17 : FVec F S16x512x1 .f32 := broadcastInDim S16x512x1 ![] bcast_S_S16x512x1 main_cst_1
  fn_part1 (F := F) main_v9 main_v16 main_v17
-- ==== Kernel.lean ====
abbrev S16x8192x3 : Shape := ⟨3, ![16, 8192, 3]⟩
abbrev S16x8192x128 : Shape := ⟨3, ![16, 8192, 128]⟩
abbrev S16x8192x1 : Shape := ⟨3, ![16, 8192, 1]⟩
abbrev S16x8192 : Shape := ⟨2, ![16, 8192]⟩
abbrev S16x512 : Shape := ⟨2, ![16, 512]⟩
abbrev S16x512x1 : Shape := ⟨3, ![16, 512, 1]⟩
abbrev S16x512x3 : Shape := ⟨3, ![16, 512, 3]⟩
abbrev S_ : Shape := ⟨0, ![]⟩
abbrev S1 : Shape := ⟨1, ![1]⟩
abbrev S1x1x1 : Shape := ⟨3, ![1, 1, 1]⟩
abbrev S16x512x128 : Shape := ⟨3, ![16, 512, 128]⟩
abbrev S16x1 : Shape := ⟨2, ![16, 1]⟩
abbrev S16 : Shape := ⟨1, ![16]⟩

abbrev nBuf : Space → Nat
  | .hbm => 39
  | .vmem => 8
  | .smem => 0
  | _ => 0

abbrev bufTy : (tb : Table) → Fin (tcTables nBuf tb) → BufTy
  | .hbm, ⟨0, _⟩ => ⟨S16x8192x3, .f32⟩
  | .hbm, ⟨1, _⟩ => ⟨S16x8192x128, .f32⟩
  | .hbm, ⟨2, _⟩ => ⟨S16x8192x1, .f32⟩
  | .hbm, ⟨3, _⟩ => ⟨S16x8192, .f32⟩
  | .hbm, ⟨4, _⟩ => ⟨S16x8192x1, .f32⟩
  | .hbm, ⟨5, _⟩ => ⟨S16x8192, .f32⟩
  | .hbm, ⟨6, _⟩ => ⟨S16x8192x1, .f32⟩
  | .hbm, ⟨7, _⟩ => ⟨S16x8192, .f32⟩
  | .hbm, ⟨8, _⟩ => ⟨S16x512, .i32⟩
  | .hbm, ⟨9, _⟩ => ⟨S16x512, .f32⟩
  | .hbm, ⟨10, _⟩ => ⟨S16x512, .f32⟩
  | .hbm, ⟨11, _⟩ => ⟨S16x512, .f32⟩
  | .hbm, ⟨12, _⟩ => ⟨S16x512x1, .f32⟩
  | .hbm, ⟨13, _⟩ => ⟨S16x512x1, .f32⟩
  | .hbm, ⟨14, _⟩ => ⟨S16x512x1, .f32⟩
  | .hbm, ⟨15, _⟩ => ⟨S16x512x3, .f32⟩
  | .hbm, ⟨16, _⟩ => ⟨S16x512x1, .i32⟩
  | .hbm, ⟨17, _⟩ => ⟨S_, .i32⟩
  | .hbm, ⟨18, _⟩ => ⟨S16x512x1, .i32⟩
  | .hbm, ⟨19, _⟩ => ⟨S16x512x1, .i1⟩
  | .hbm, ⟨20, _⟩ => ⟨S_, .i32⟩
  | .hbm, ⟨21, _⟩ => ⟨S16x512x1, .i32⟩
  | .hbm, ⟨22, _⟩ => ⟨S16x512x1, .i32⟩
  | .hbm, ⟨23, _⟩ => ⟨S16x512x1, .i32⟩
  | .hbm, ⟨24, _⟩ => ⟨S1, .i32⟩
  | .hbm, ⟨25, _⟩ => ⟨S_, .i32⟩
  | .hbm, ⟨26, _⟩ => ⟨S16x512x1, .i32⟩
  | .hbm, ⟨27, _⟩ => ⟨S16x512x1, .i1⟩
  | .hbm, ⟨28, _⟩ => ⟨S1x1x1, .i32⟩
  | .hbm, ⟨29, _⟩ => ⟨S16x512x1, .i32⟩
  | .hbm, ⟨30, _⟩ => ⟨S16x512x1, .i1⟩
  | .hbm, ⟨31, _⟩ => ⟨S16x512x1, .i1⟩
  | .hbm, ⟨32, _⟩ => ⟨S_, .i1⟩
  | .hbm, ⟨33, _⟩ => ⟨S16x512, .i1⟩
  | .hbm, ⟨34, _⟩ => ⟨S16x512x128, .f32⟩
  | .hbm, ⟨35, _⟩ => ⟨S16x512x128, .i1⟩
  | .hbm, ⟨36, _⟩ => ⟨S_, .f32⟩
  | .hbm, ⟨37, _⟩ => ⟨S16x512x128, .f32⟩
  | .hbm, ⟨38, _⟩ => ⟨S16x512x128, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x512, .i32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x8192, .f32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6_0 : Ref sig .tc := ⟨.hbm, 8, rfl⟩
abbrev main_call0_v6_1 : Ref sig .tc := ⟨.hbm, 9, rfl⟩
abbrev main_call0_v6_2 : Ref sig .tc := ⟨.hbm, 10, rfl⟩
abbrev main_call0_v6_3 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_v0_0 : Ref sig .tc := ⟨.hbm, 15, rfl⟩
abbrev main_call0_v11 : Ref sig .tc := ⟨.hbm, 16, rfl⟩
abbrev main_call0_call0_c : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_c_0 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_c_1 : Ref sig .tc := ⟨.hbm, 24, rfl⟩
abbrev main_call0_call0_c_2 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_c_3 : Ref sig .tc := ⟨.hbm, 32, rfl⟩
abbrev main_call0_call0_v11 : Ref sig .tc := ⟨.hbm, 33, rfl⟩
abbrev main_call0_call0_v12 : Ref sig .tc := ⟨.hbm, 34, rfl⟩
abbrev main_call0_call0_v13 : Ref sig .tc := ⟨.hbm, 35, rfl⟩
abbrev main_call0_call0_cst : Ref sig .tc := ⟨.hbm, 36, rfl⟩
abbrev main_call0_call0_v14 : Ref sig .tc := ⟨.hbm, 37, rfl⟩
abbrev main_v0_1 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v38 : BitVec 32 := Scalar.addi c1_i32 c511_i32
  let c1_i32_21 : BitVec 32 := 1#32
  ⟨c1_i32, v38, c1_i32_21⟩
abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16x8192x3 : Shape := ⟨3, ![16, 8192, 3]⟩
abbrev S16x8192x128 : Shape := ⟨3, ![16, 8192, 128]⟩
abbrev S_ : Shape := ⟨0, ![]⟩
abbrev S16x512 : Shape := ⟨2, ![16, 512]⟩
abbrev S16x1 : Shape := ⟨2, ![16, 1]⟩
abbrev S16x8192 : Shape := ⟨2, ![16, 8192]⟩
abbrev S16x1x1 : Shape := ⟨3, ![16, 1, 1]⟩
abbrev S1 : Shape := ⟨1, ![1]⟩
abbrev S1x1x1 : Shape := ⟨3, ![1, 1, 1]⟩
abbrev S16x1x3 : Shape := ⟨3, ![16, 1, 3]⟩
abbrev S16 : Shape := ⟨1, ![16]⟩
abbrev S16x512x1 : Shape := ⟨3, ![16, 512, 1]⟩
abbrev S16x512x3 : Shape := ⟨3, ![16, 512, 3]⟩
abbrev S16x512x128 : Shape := ⟨3, ![16, 512, 128]⟩

abbrev nBuf : Space → Nat
  | .hbm => 115
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x8192x128, .f32⟩
  | .hbm, ⟨2, _⟩ => ⟨S_, .i32⟩
  | .hbm, ⟨3, _⟩ => ⟨S16x512, .i32⟩
  | .hbm, ⟨4, _⟩ => ⟨S_, .i32⟩
  | .hbm, ⟨5, _⟩ => ⟨S16x1, .i32⟩
  | .hbm, ⟨6, _⟩ => ⟨S_, .f32⟩
  | .hbm, ⟨7, _⟩ => ⟨S16x8192, .f32⟩
  | .hbm, ⟨8, _⟩ => ⟨S_, .i32⟩
  | .hbm, ⟨9, _⟩ => ⟨S_, .i32⟩
  | .hbm, ⟨10, _⟩ => ⟨S16x8192x3, .f32⟩
  | .hbm, ⟨11, _⟩ => ⟨S_, .i32⟩
  | .hbm, ⟨12, _⟩ => ⟨S_, .i32⟩
  | .hbm, ⟨13, _⟩ => ⟨S16x512, .i32⟩
  | .hbm, ⟨14, _⟩ => ⟨S16x1, .i32⟩
  | .hbm, ⟨15, _⟩ => ⟨S16x8192, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S16x1x1, .i32⟩
  | .hbm, ⟨21, _⟩ => ⟨S_, .i32⟩
  | .hbm, ⟨22, _⟩ => ⟨S16x1x1, .i32⟩
  | .hbm, ⟨23, _⟩ => ⟨S16x1x1, .i1⟩
  | .hbm, ⟨24, _⟩ => ⟨S_, .i32⟩
  | .hbm, ⟨25, _⟩ => ⟨S16x1x1, .i32⟩
  | .hbm, ⟨26, _⟩ => ⟨S16x1x1, .i32⟩
  | .hbm, ⟨27, _⟩ => ⟨S16x1x1, .i32⟩
  | .hbm, ⟨28, _⟩ => ⟨S1, .i32⟩
  | .hbm, ⟨29, _⟩ => ⟨S_, .i32⟩
  | .hbm, ⟨30, _⟩ => ⟨S16x1x1, .i32⟩
  | .hbm, ⟨31, _⟩ => ⟨S16x1x1, .i1⟩
  | .hbm, ⟨32, _⟩ => ⟨S1x1x1, .i32⟩
  | .hbm, ⟨33, _⟩ => ⟨S16x1x1, .i32⟩
  | .hbm, ⟨34, _⟩ => ⟨S16x1x1, .i1⟩
  | .hbm, ⟨35, _⟩ => ⟨S16x1x1, .i1⟩
  | .hbm, ⟨36, _⟩ => ⟨S_, .i1⟩
  | .hbm, ⟨37, _⟩ => ⟨S16x1, .i1⟩
  | .hbm, ⟨38, _⟩ => ⟨S16x1x3, .f32⟩
  | .hbm, ⟨39, _⟩ => ⟨S16x1x3, .i1⟩
  | .hbm, ⟨40, _⟩ => ⟨S_, .f32⟩
  | .hbm, ⟨41, _⟩ => ⟨S16x1x3, .f32⟩
  | .hbm, ⟨42, _⟩ => ⟨S16x1x3, .f32⟩
  | .hbm, ⟨43, _⟩ => ⟨S16x8192x3, .f32⟩
  | .hbm, ⟨44, _⟩ => ⟨S16x8192x3, .f32⟩
  | .hbm, ⟨45, _⟩ => ⟨S16x8192x3, .f32⟩
  | .hbm, ⟨46, _⟩ => ⟨S_, .f32⟩
  | .hbm, ⟨47, _⟩ => ⟨S16x8192, .f32⟩
  | .hbm, ⟨48, _⟩ => ⟨S16x8192, .f32⟩
  | .hbm, ⟨49, _⟩ => ⟨S16x8192, .f32⟩
  | .hbm, ⟨50, _⟩ => ⟨S16x8192, .i32⟩
  | .hbm, ⟨51, _⟩ => ⟨S_, .f32⟩
  | .hbm, ⟨52, _⟩ => ⟨S_, .i32⟩
  | .hbm, ⟨53, _⟩ => ⟨S16, .f32⟩
  | .hbm, ⟨54, _⟩ => ⟨S16, .i32⟩
  | .hbm, ⟨55, _⟩ => ⟨S16x1, .i32⟩
  | .hbm, ⟨56, _⟩ => ⟨S_, .i32⟩
  | .hbm, ⟨57, _⟩ => ⟨S16x1, .i32⟩
  | .hbm, ⟨58, _⟩ => ⟨S16x1, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S16x512, .i32⟩
  | .hbm, ⟨67, _⟩ => ⟨S_, .i32⟩
  | .hbm, ⟨68, _⟩ => ⟨S_, .i32⟩
  | .hbm, ⟨69, _⟩ => ⟨S16x512x1, .i32⟩
  | .hbm, ⟨70, _⟩ => ⟨S_, .i32⟩
  | .hbm, ⟨71, _⟩ => ⟨S16x512x1, .i32⟩
  | .hbm, ⟨72, _⟩ => ⟨S16x512x1, .i1⟩
  | .hbm, ⟨73, _⟩ => ⟨S_, .i32⟩
  | .hbm, ⟨74, _⟩ => ⟨S16x512x1, .i32⟩
  | .hbm, ⟨75, _⟩ => ⟨S16x512x1, .i32⟩
  | .hbm, ⟨76, _⟩ => ⟨S16x512x1, .i32⟩
  | .hbm, ⟨77, _⟩ => ⟨S1, .i32⟩
  | .hbm, ⟨78, _⟩ => ⟨S_, .i32⟩
  | .hbm, ⟨79, _⟩ => ⟨S16x512x1, .i32⟩
  | .hbm, ⟨80, _⟩ => ⟨S16x512x1, .i1⟩
  | .hbm, ⟨81, _⟩ => ⟨S1x1x1, .i32⟩
  | .hbm, ⟨82, _⟩ => ⟨S16x512x1, .i32⟩
  | .hbm, ⟨83, _⟩ => ⟨S16x512x1, .i1⟩
  | .hbm, ⟨84, _⟩ => ⟨S16x512x1, .i1⟩
  | .hbm, ⟨85, _⟩ => ⟨S_, .i1⟩
  | .hbm, ⟨86, _⟩ => ⟨S16x512, .i1⟩
  | .hbm, ⟨87, _⟩ => ⟨S16x512x3, .f32⟩
  | .hbm, ⟨88, _⟩ => ⟨S16x512x3, .i1⟩
  | .hbm, ⟨89, _⟩ => ⟨S_, .f32⟩
  | .hbm, ⟨90, _⟩ => ⟨S16x512x3, .f32⟩
  | .hbm, ⟨91, _⟩ => ⟨S16x512x3, .f32⟩
  | .hbm, ⟨92, _⟩ => ⟨S16x512x1, .i32⟩
  | .hbm, ⟨93, _⟩ => ⟨S_, .i32⟩
  | .hbm, ⟨94, _⟩ => ⟨S16x512x1, .i32⟩
  | .hbm, ⟨95, _⟩ => ⟨S16x512x1, .i1⟩
  | .hbm, ⟨96, _⟩ => ⟨S_, .i32⟩
  | .hbm, ⟨97, _⟩ => ⟨S16x512x1, .i32⟩
  | .hbm, ⟨98, _⟩ => ⟨S16x512x1, .i32⟩
  | .hbm, ⟨99, _⟩ => ⟨S16x512x1, .i32⟩
  | .hbm, ⟨100, _⟩ => ⟨S1, .i32⟩
  | .hbm, ⟨101, _⟩ => ⟨S_, .i32⟩
  | .hbm, ⟨102, _⟩ => ⟨S16x512x1, .i32⟩
  | .hbm, ⟨103, _⟩ => ⟨S16x512x1, .i1⟩
  | .hbm, ⟨104, _⟩ => ⟨S1x1x1, .i32⟩
  | .hbm, ⟨105, _⟩ => ⟨S16x512x1, .i32⟩
  | .hbm, ⟨106, _⟩ => ⟨S16x512x1, .i1⟩
  | .hbm, ⟨107, _⟩ => ⟨S16x512x1, .i1⟩
  | .hbm, ⟨108, _⟩ => ⟨S_, .i1⟩
  | .hbm, ⟨109, _⟩ => ⟨S16x512, .i1⟩
  | .hbm, ⟨110, _⟩ => ⟨S16x512x128, .f32⟩
  | .hbm, ⟨111, _⟩ => ⟨S16x512x128, .i1⟩
  | .hbm, ⟨112, _⟩ => ⟨S_, .f32⟩
  | .hbm, ⟨113, _⟩ => ⟨S16x512x128, .f32⟩
  | .hbm, ⟨114, _⟩ => ⟨S16x512x128, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_8 : Ref sig .tc := ⟨.hbm, 16, rfl⟩
abbrev main_while0c_v8 : Ref sig .tc := ⟨.hbm, 17, rfl⟩
abbrev main_while0b_c_8 : Ref sig .tc := ⟨.hbm, 18, rfl⟩
abbrev main_while0b_v8 : Ref sig .tc := ⟨.hbm, 19, rfl⟩
abbrev main_while0b_v9 : Ref sig .tc := ⟨.hbm, 20, rfl⟩
abbrev main_while0b_call0_c : Ref sig .tc := ⟨.hbm, 21, rfl⟩
abbrev main_while0b_call0_v0 : Ref sig .tc := ⟨.hbm, 22, rfl⟩
abbrev main_while0b_call0_v1 : Ref sig .tc := ⟨.hbm, 23, rfl⟩
abbrev main_while0b_call0_c_0 : Ref sig .tc := ⟨.hbm, 24, rfl⟩
abbrev main_while0b_call0_v2 : Ref sig .tc := ⟨.hbm, 25, rfl⟩
abbrev main_while0b_call0_v3 : Ref sig .tc := ⟨.hbm, 26, rfl⟩
abbrev main_while0b_call0_v4 : Ref sig .tc := ⟨.hbm, 27, rfl⟩
abbrev main_while0b_call0_c_1 : Ref sig .tc := ⟨.hbm, 28, rfl⟩
abbrev main_while0b_call0_c_2 : Ref sig .tc := ⟨.hbm, 29, rfl⟩
abbrev main_while0b_call0_v5 : Ref sig .tc := ⟨.hbm, 30, rfl⟩
abbrev main_while0b_call0_v6 : Ref sig .tc := ⟨.hbm, 31, rfl⟩
abbrev main_while0b_call0_v7 : Ref sig .tc := ⟨.hbm, 32, rfl⟩
abbrev main_while0b_call0_v8 : Ref sig .tc := ⟨.hbm, 33, rfl⟩
abbrev main_while0b_call0_v9 : Ref sig .tc := ⟨.hbm, 34, rfl⟩
abbrev main_while0b_call0_v10 : Ref sig .tc := ⟨.hbm, 35, rfl⟩
abbrev main_while0b_call0_c_3 : Ref sig .tc := ⟨.hbm, 36, rfl⟩
abbrev main_while0b_call0_v11 : Ref sig .tc := ⟨.hbm, 37, rfl⟩
abbrev main_while0b_call0_v12 : Ref sig .tc := ⟨.hbm, 38, rfl⟩
abbrev main_while0b_call0_v13 : Ref sig .tc := ⟨.hbm, 39, rfl⟩
abbrev main_while0b_call0_cst : Ref sig .tc := ⟨.hbm, 40, rfl⟩
abbrev main_while0b_call0_v14 : Ref sig .tc := ⟨.hbm, 41, rfl⟩
abbrev main_while0b_v10 : Ref sig .tc := ⟨.hbm, 42, rfl⟩
abbrev main_while0b_v11 : Ref sig .tc := ⟨.hbm, 43, rfl⟩
abbrev main_while0b_v12 : Ref sig .tc := ⟨.hbm, 44, rfl⟩
abbrev main_while0b_v13 : Ref sig .tc := ⟨.hbm, 45, rfl⟩
abbrev main_while0b_cst_9 : Ref sig .tc := ⟨.hbm, 46, rfl⟩
abbrev main_while0b_v14 : Ref sig .tc := ⟨.hbm, 47, rfl⟩
abbrev main_while0b_v15 : Ref sig .tc := ⟨.hbm, 48, rfl⟩
abbrev main_while0b_v16 : Ref sig .tc := ⟨.hbm, 49, rfl⟩
abbrev main_while0b_call2_v0 : Ref sig .tc := ⟨.hbm, 50, rfl⟩
abbrev main_while0b_call2_cst : Ref sig .tc := ⟨.hbm, 51, rfl⟩
abbrev main_while0b_call2_c : Ref sig .tc := ⟨.hbm, 52, rfl⟩
abbrev main_while0b_call2_v1_0 : Ref sig .tc := ⟨.hbm, 53, rfl⟩
abbrev main_while0b_v17 : Ref sig .tc := ⟨.hbm, 54, rfl⟩
abbrev main_while0b_v18 : Ref sig .tc := ⟨.hbm, 55, rfl⟩
abbrev main_while0b_c_10 : Ref sig .tc := ⟨.hbm, 56, rfl⟩
abbrev main_while0b_v19 : Ref sig .tc := ⟨.hbm, 57, rfl⟩
abbrev main_while0b_v20 : Ref sig .tc := ⟨.hbm, 58, rfl⟩
abbrev main_while0b_c_11 : Ref sig .tc := ⟨.hbm, 59, rfl⟩
abbrev main_while0b_v21 : Ref sig .tc := ⟨.hbm, 60, rfl⟩
abbrev main_while0b_v22 : Ref sig .tc := ⟨.hbm, 61, rfl⟩
abbrev main_while0b_c_12 : Ref sig .tc := ⟨.hbm, 62, rfl⟩
abbrev main_while0b_v23 : Ref sig .tc := ⟨.hbm, 63, rfl⟩
abbrev main_while0b_v24 : Ref sig .tc := ⟨.hbm, 64, rfl⟩
abbrev main_while0b_c_13 : Ref sig .tc := ⟨.hbm, 65, rfl⟩
abbrev main_while0b_v25 : Ref sig .tc := ⟨.hbm, 66, rfl⟩
abbrev main_while0b_c_14 : Ref sig .tc := ⟨.hbm, 67, rfl⟩
abbrev main_while0b_v26 : Ref sig .tc := ⟨.hbm, 68, rfl⟩
abbrev main_v4 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_c_2 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_c_3 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_cst : Ref sig .tc := ⟨.hbm, 89, rfl⟩
abbrev main_call3_v14 : Ref sig .tc := ⟨.hbm, 90, rfl⟩
abbrev main_v5 : Ref sig .tc := ⟨.hbm, 91, rfl⟩
abbrev main_v6 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_c_1 : Ref sig .tc := ⟨.hbm, 100, rfl⟩
abbrev main_call4_c_2 : Ref sig .tc := ⟨.hbm, 101, rfl⟩
abbrev main_call4_v5 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_c_3 : Ref sig .tc := ⟨.hbm, 108, rfl⟩
abbrev main_call4_v11 : Ref sig .tc := ⟨.hbm, 109, rfl⟩
abbrev main_call4_v12 : Ref sig .tc := ⟨.hbm, 110, rfl⟩
abbrev main_call4_v13 : Ref sig .tc := ⟨.hbm, 111, rfl⟩
abbrev main_call4_cst : Ref sig .tc := ⟨.hbm, 112, rfl⟩
abbrev main_call4_v14 : Ref sig .tc := ⟨.hbm, 113, rfl⟩
abbrev main_v7 : Ref sig .tc := ⟨.hbm, 114, rfl⟩

abbrev nD : Nat := 1
abbrev τ : Topo := Topo.v7x

variable {F : FTy → Type} [FloatOps F]

abbrev main_while0_count : Scf.Loop 32 := ⟨0#32, 511#32, 1#32⟩
-- ==== Kernel2.lean ====
abbrev S16x8192x3 : Shape := ⟨3, ![16, 8192, 3]⟩
abbrev S16x8192x128 : Shape := ⟨3, ![16, 8192, 128]⟩
abbrev S16x512x3 : Shape := ⟨3, ![16, 512, 3]⟩
abbrev S16x8192x1 : Shape := ⟨3, ![16, 8192, 1]⟩
abbrev S16x8192 : Shape := ⟨2, ![16, 8192]⟩
abbrev S16x512x1 : Shape := ⟨3, ![16, 512, 1]⟩
abbrev S16x512 : Shape := ⟨2, ![16, 512]⟩
abbrev S16x64x128 : Shape := ⟨3, ![16, 64, 128]⟩
abbrev S16x32x16x1 : Shape := ⟨4, ![16, 32, 16, 1]⟩
abbrev S16x32x16x16 : Shape := ⟨4, ![16, 32, 16, 16]⟩
abbrev S16x512x16 : Shape := ⟨3, ![16, 512, 16]⟩
abbrev S_ : Shape := ⟨0, ![]⟩
abbrev S16x512x16x1 : Shape := ⟨4, ![16, 512, 16, 1]⟩
abbrev S16x512x16x3 : Shape := ⟨4, ![16, 512, 16, 3]⟩
abbrev S16x512x16x128 : Shape := ⟨4, ![16, 512, 16, 128]⟩
abbrev S1x64x128 : Shape := ⟨3, ![1, 64, 128]⟩
abbrev S1x1x16x1 : Shape := ⟨4, ![1, 1, 16, 1]⟩
abbrev S1x1x16x16 : Shape := ⟨4, ![1, 1, 16, 16]⟩
abbrev S16x1 : Shape := ⟨2, ![16, 1]⟩
abbrev S16x128 : Shape := ⟨2, ![16, 128]⟩
abbrev S1x1x128 : Shape := ⟨3, ![1, 1, 128]⟩
abbrev S1x128 : Shape := ⟨2, ![1, 128]⟩
abbrev S16x16 : Shape := ⟨2, ![16, 16]⟩
abbrev S16 : Shape := ⟨1, ![16]⟩

abbrev nBuf : Space → Nat
  | .hbm => 41
  | .vmem => 14
  | .smem => 0
  | _ => 0

abbrev bufTy : (tb : Table) → Fin (tcTables nBuf tb) → BufTy
  | .hbm, ⟨0, _⟩ => ⟨S16x8192x3, .f32⟩
  | .hbm, ⟨1, _⟩ => ⟨S16x8192x128, .f32⟩
  | .hbm, ⟨2, _⟩ => ⟨S16x512x3, .f32⟩
  | .hbm, ⟨3, _⟩ => ⟨S16x8192x1, .f32⟩
  | .hbm, ⟨4, _⟩ => ⟨S16x8192, .f32⟩
  | .hbm, ⟨5, _⟩ => ⟨S16x8192x1, .f32⟩
  | .hbm, ⟨6, _⟩ => ⟨S16x8192, .f32⟩
  | .hbm, ⟨7, _⟩ => ⟨S16x8192x1, .f32⟩
  | .hbm, ⟨8, _⟩ => ⟨S16x8192, .f32⟩
  | .hbm, ⟨9, _⟩ => ⟨S16x512x1, .f32⟩
  | .hbm, ⟨10, _⟩ => ⟨S16x512, .f32⟩
  | .hbm, ⟨11, _⟩ => ⟨S16x512x1, .f32⟩
  | .hbm, ⟨12, _⟩ => ⟨S16x512, .f32⟩
  | .hbm, ⟨13, _⟩ => ⟨S16x512x1, .f32⟩
  | .hbm, ⟨14, _⟩ => ⟨S16x512, .f32⟩
  | .hbm, ⟨15, _⟩ => ⟨S16x64x128, .f32⟩
  | .hbm, ⟨16, _⟩ => ⟨S16x64x128, .f32⟩
  | .hbm, ⟨17, _⟩ => ⟨S16x64x128, .f32⟩
  | .hbm, ⟨18, _⟩ => ⟨S16x32x16x1, .f32⟩
  | .hbm, ⟨19, _⟩ => ⟨S16x32x16x1, .f32⟩
  | .hbm, ⟨20, _⟩ => ⟨S16x32x16x1, .f32⟩
  | .hbm, ⟨21, _⟩ => ⟨S16x32x16x16, .i32⟩
  | .hbm, ⟨22, _⟩ => ⟨S16x512x16, .i32⟩
  | .hbm, ⟨23, _⟩ => ⟨S_, .i32⟩
  | .hbm, ⟨24, _⟩ => ⟨S16x512x16, .i32⟩
  | .hbm, ⟨25, _⟩ => ⟨S16x512x16, .i1⟩
  | .hbm, ⟨26, _⟩ => ⟨S_, .i32⟩
  | .hbm, ⟨27, _⟩ => ⟨S16x512x16, .i32⟩
  | .hbm, ⟨28, _⟩ => ⟨S16x512x16, .i32⟩
  | .hbm, ⟨29, _⟩ => ⟨S16x512x16, .i32⟩
  | .hbm, ⟨30, _⟩ => ⟨S16x512x16x1, .i32⟩
  | .hbm, ⟨31, _⟩ => ⟨S16x512x16x3, .f32⟩
  | .hbm, ⟨32, _⟩ => ⟨S_, .i32⟩
  | .hbm, ⟨33, _⟩ => ⟨S16x512x16, .i32⟩
  | .hbm, ⟨34, _⟩ => ⟨S16x512x16, .i1⟩
  | .hbm, ⟨35, _⟩ => ⟨S_, .i32⟩
  | .hbm, ⟨36, _⟩ => ⟨S16x512x16, .i32⟩
  | .hbm, ⟨37, _⟩ => ⟨S16x512x16, .i32⟩
  | .hbm, ⟨38, _⟩ => ⟨S16x512x16, .i32⟩
  | .hbm, ⟨39, _⟩ => ⟨S16x512x16x1, .i32⟩
  | .hbm, ⟨40, _⟩ => ⟨S16x512x16x128, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x1x16x1, .f32⟩
  | .local _ .vmem, ⟨7, _⟩ => ⟨S1x1x16x1, .f32⟩
  | .local _ .vmem, ⟨8, _⟩ => ⟨S1x1x16x1, .f32⟩
  | .local _ .vmem, ⟨9, _⟩ => ⟨S1x1x16x1, .f32⟩
  | .local _ .vmem, ⟨10, _⟩ => ⟨S1x1x16x1, .f32⟩
  | .local _ .vmem, ⟨11, _⟩ => ⟨S1x1x16x1, .f32⟩
  | .local _ .vmem, ⟨12, _⟩ => ⟨S1x1x16x16, .i32⟩
  | .local _ .vmem, ⟨13, _⟩ => ⟨S1x1x16x16, .i32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_call0_v18 : Ref sig .tc := ⟨.hbm, 21, rfl⟩
abbrev main_call0_v19 : Ref sig .tc := ⟨.hbm, 22, rfl⟩
abbrev main_call0_c : Ref sig .tc := ⟨.hbm, 23, rfl⟩
abbrev main_call0_v20 : Ref sig .tc := ⟨.hbm, 24, rfl⟩
abbrev main_call0_v21 : Ref sig .tc := ⟨.hbm, 25, rfl⟩
abbrev main_call0_c_0 : Ref sig .tc := ⟨.hbm, 26, rfl⟩
abbrev main_call0_v22 : Ref sig .tc := ⟨.hbm, 27, rfl⟩
abbrev main_call0_v23 : Ref sig .tc := ⟨.hbm, 28, rfl⟩
abbrev main_call0_v24 : Ref sig .tc := ⟨.hbm, 29, rfl⟩
abbrev main_call0_v25 : Ref sig .tc := ⟨.hbm, 30, rfl⟩
abbrev main_v0_0 : Ref sig .tc := ⟨.hbm, 31, rfl⟩
abbrev main_call0_c_1 : Ref sig .tc := ⟨.hbm, 32, rfl⟩
abbrev main_call0_v27 : Ref sig .tc := ⟨.hbm, 33, rfl⟩
abbrev main_call0_v28 : Ref sig .tc := ⟨.hbm, 34, rfl⟩
abbrev main_call0_c_2 : Ref sig .tc := ⟨.hbm, 35, rfl⟩
abbrev main_call0_v29 : Ref sig .tc := ⟨.hbm, 36, rfl⟩
abbrev main_call0_v30 : Ref sig .tc := ⟨.hbm, 37, rfl⟩
abbrev main_call0_v31 : Ref sig .tc := ⟨.hbm, 38, rfl⟩
abbrev main_call0_v32 : Ref sig .tc := ⟨.hbm, 39, rfl⟩
abbrev main_v0_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 32], ![false, false]⟩

@[reducible] def k0_t1_loop : Scf.Loop 32 :=
  let c0_i32 : BitVec 32 := 0#32
  let c64_i32 : BitVec 32 := 64#32
  let v17 : BitVec 32 := Scalar.addi c0_i32 c64_i32
  let c1_i32 : BitVec 32 := 1#32
  ⟨c0_i32, v17, c1_i32⟩
def k0_off1 (k0_t1 : Fin k0_t1_loop.trips) : Fin 3 → Nat :=
  let c0_30 : Index := 0#32
  let c0_i32 : BitVec 32 := 0#32
  let c1_i32 : BitVec 32 := 1#32
  let arg9 : BitVec 32 := Scf.iv c0_i32 c1_i32 k0_t1
  let v26 : Index := Scalar.indexCast arg9
  let c0_31 : Index := 0#32
  ![0, v26.toNat, 0]
@[reducible] def k0_t2_loop : Scf.Loop 32 :=
  let c0_i32_23 : BitVec 32 := 0#32
  let c16_i32 : BitVec 32 := 16#32
  let v21 : BitVec 32 := Scalar.addi c0_i32_23 c16_i32
  let c1_i32_24 : BitVec 32 := 1#32
  ⟨c0_i32_23, v21, c1_i32_24⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16x8192x3 : Shape := ⟨3, ![16, 8192, 3]⟩
abbrev S16x8192x128 : Shape := ⟨3, ![16, 8192, 128]⟩
abbrev S16x512x3 : Shape := ⟨3, ![16, 512, 3]⟩
abbrev S16x512x1x3 : Shape := ⟨4, ![16, 512, 1, 3]⟩
abbrev S16x1x8192x3 : Shape := ⟨4, ![16, 1, 8192, 3]⟩
abbrev S16x512x8192x3 : Shape := ⟨4, ![16, 512, 8192, 3]⟩
abbrev S_ : Shape := ⟨0, ![]⟩
abbrev S16x512x8192 : Shape := ⟨3, ![16, 512, 8192]⟩
abbrev S16x512x16 : Shape := ⟨3, ![16, 512, 16]⟩
abbrev S16x512x16x1 : Shape := ⟨4, ![16, 512, 16, 1]⟩
abbrev S16x512x16x3 : Shape := ⟨4, ![16, 512, 16, 3]⟩
abbrev S16x512x16x128 : Shape := ⟨4, ![16, 512, 16, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x8192x128, .f32⟩
  | .hbm, ⟨2, _⟩ => ⟨S16x512x3, .f32⟩
  | .hbm, ⟨3, _⟩ => ⟨S16x512x1x3, .f32⟩
  | .hbm, ⟨4, _⟩ => ⟨S16x1x8192x3, .f32⟩
  | .hbm, ⟨5, _⟩ => ⟨S16x512x8192x3, .f32⟩
  | .hbm, ⟨6, _⟩ => ⟨S16x512x8192x3, .f32⟩
  | .hbm, ⟨7, _⟩ => ⟨S16x512x8192x3, .f32⟩
  | .hbm, ⟨8, _⟩ => ⟨S16x512x8192x3, .f32⟩
  | .hbm, ⟨9, _⟩ => ⟨S_, .f32⟩
  | .hbm, ⟨10, _⟩ => ⟨S16x512x8192, .f32⟩
  | .hbm, ⟨11, _⟩ => ⟨S16x512x8192, .f32⟩
  | .hbm, ⟨12, _⟩ => ⟨S16x512x16, .f32⟩
  | .hbm, ⟨13, _⟩ => ⟨S16x512x16, .i32⟩
  | .hbm, ⟨14, _⟩ => ⟨S_, .i32⟩
  | .hbm, ⟨15, _⟩ => ⟨S16x512x16, .i32⟩
  | .hbm, ⟨16, _⟩ => ⟨S16x512x16, .i1⟩
  | .hbm, ⟨17, _⟩ => ⟨S_, .i32⟩
  | .hbm, ⟨18, _⟩ => ⟨S16x512x16, .i32⟩
  | .hbm, ⟨19, _⟩ => ⟨S16x512x16, .i32⟩
  | .hbm, ⟨20, _⟩ => ⟨S16x512x16, .i32⟩
  | .hbm, ⟨21, _⟩ => ⟨S16x512x16x1, .i32⟩
  | .hbm, ⟨22, _⟩ => ⟨S16x512x16x3, .f32⟩
  | .hbm, ⟨23, _⟩ => ⟨S_, .i32⟩
  | .hbm, ⟨24, _⟩ => ⟨S16x512x16, .i32⟩
  | .hbm, ⟨25, _⟩ => ⟨S16x512x16, .i1⟩
  | .hbm, ⟨26, _⟩ => ⟨S_, .i32⟩
  | .hbm, ⟨27, _⟩ => ⟨S16x512x16, .i32⟩
  | .hbm, ⟨28, _⟩ => ⟨S16x512x16, .i32⟩
  | .hbm, ⟨29, _⟩ => ⟨S16x512x16, .i32⟩
  | .hbm, ⟨30, _⟩ => ⟨S16x512x16x1, .i32⟩
  | .hbm, ⟨31, _⟩ => ⟨S16x512x16x128, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_values : Ref sig .tc := ⟨.hbm, 12, rfl⟩
abbrev main_indices : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Fps.lean ====
/-
  The mathematics of farthest point sampling on one cloud of 8192 points, with no program in it: the squared distance of two points, the last
  index at which a function takes its greatest value, and the sequence of (distance to the chosen set, last chosen point) that the sampling goes
  through. Then the two ways in which a program finds that index: as the greatest of the indices that reach the maximum, and as a first arg-max of
  the reversed values.
-/
module

public import Idealize.ShloMosaic.Lib.Pointwise

@[expose] public section

noncomputable section

namespace Cert.Fps

open Idealize.ShloMosaic

/-- The squared distance of points `n` and `l` of a cloud with coordinates `X`, `Y`, `Z`. -/
def sq (X Y Z : Fin 8192 → EReal) (n l : Fin 8192) : EReal :=
  (X n - X l) * (X n - X l) + (Y n - Y l) * (Y n - Y l) + (Z n - Z l) * (Z n - Z l)

/-- `l` is the last index at which `d` takes its greatest value. -/
structure IsLast (d : Fin 8192 → EReal) (l : Fin 8192) : Prop where
  le : ∀ n, d n ≤ d l
  lt : ∀ n, l < n → d n < d l

theorem isLast_unique {d : Fin 8192 → EReal} {l l' : Fin 8192} (h : IsLast d l) (h' : IsLast d l') : l = l' := by
  rcases lt_trichotomy l l' with c | c | c
  · exact absurd (h.lt _ c) (not_lt.mpr (h'.le _))
  · exact c
  · exact absurd (h'.lt _ c) (not_lt.mpr (h.le _))

theorem exists_isLast (d : Fin 8192 → EReal) : ∃ l, IsLast d l := by
  obtain ⟨m, -, hm⟩ := Finset.exists_max_image (Finset.univ : Finset (Fin 8192)) d ⟨0, Finset.mem_univ _⟩
  have hne : (Finset.univ.filter fun n => d n = d m).Nonempty := ⟨m, by simp⟩
  refine ⟨(Finset.univ.filter fun n => d n = d m).max' hne, ?_, ?_⟩
  · intro n
    have h := Finset.max'_mem _ hne
    rw [Finset.mem_filter] at h
    rw [h.2]; exact hm n (Finset.mem_univ _)
  · intro n hn
    have h := Finset.max'_mem _ hne
    rw [Finset.mem_filter] at h
    rw [h.2]
    refine lt_of_le_of_ne (hm n (Finset.mem_univ _)) fun he => ?_
    exact absurd (Finset.le_max' _ n (by simp [he])) (not_le.mpr hn)

/-- The last index at which `d` takes its greatest value. -/
def last (d : Fin 8192 → EReal) : Fin 8192 := Classical.choose (exists_isLast d)

theorem last_spec (d : Fin 8192 → EReal) : IsLast d (last d) := Classical.choose_spec (exists_isLast d)

theorem last_eq {d : Fin 8192 → EReal} {l : Fin 8192} (h : IsLast d l) : last d = l := isLast_unique (last_spec d) h

/-- The sampling after `k` further choices: each point's squared distance to the points chosen before the last one, and the last chosen point. -/
def run (X Y Z : Fin 8192 → EReal) : ℕ → (Fin 8192 → EReal) × Fin 8192
  | 0 => (fun _ => ⊤, 0)
  | k + 1 =>
    let d := fun n => min ((run X Y Z k).1 n) (sq X Y Z n (run X Y Z k).2)
    (d, last d)

theorem run_succ_dist (X Y Z : Fin 8192 → EReal) (k : ℕ) :
    (run X Y Z (k + 1)).1 = fun n => min ((run X Y Z k).1 n) (sq X Y Z n (run X Y Z k).2) := rfl

theorem run_succ_last (X Y Z : Fin 8192 → EReal) (k : ℕ) : (run X Y Z (k + 1)).2 = last (run X Y Z (k + 1)).1 := rfl

/-- The words of the indices, read as signed integers. -/
theorem toInt_idx (n : Fin 8192) : (BitVec.ofNat 32 (n : ℕ)).toInt = (n : ℤ) := by
  have := n.isLt
  rw [BitVec.toInt_eq_toNat_of_lt] <;> simp only [BitVec.toNat_ofNat] <;> omega

theorem idx_inj {n l : Fin 8192} (h : BitVec.ofNat 32 (n : ℕ) = BitVec.ofNat 32 (l : ℕ)) : n = l := by
  have := congrArg BitVec.toInt h
  rw [toInt_idx, toInt_idx] at this
  exact Fin.ext (by omega)

theorem maxsi_toInt (a b : BitVec 32) : (IntOp.maxsi a b).toInt = max a.toInt b.toInt := by
  unfold IntOp.maxsi
  rw [BitVec.slt_eq_decide]
  split <;> rename_i h <;> simp only [decide_eq_true_eq] at h <;> omega

theorem fold_maxsi_toInt {ι : Type} (s : Finset ι) (a : BitVec 32) (f : ι → BitVec 32) :
    (s.fold IntOp.maxsi a f).toInt = s.fold max a.toInt fun i => (f i).toInt := by
  induction s using Finset.cons_induction with
  | empty => simp
  | cons i s hi ih => rw [Finset.fold_cons, Finset.fold_cons, maxsi_toInt, ih]

theorem fold_max_eq (d : Fin 8192 → EReal) : Finset.univ.fold max (Ideal.ofBits FTy.f32 4286578688#32) (fun x => d x) = d (last d) := by
  have hb : Ideal.ofBits FTy.f32 4286578688#32 = ⊥ := by simp [Ideal.ofBits, Ideal.ieee]
  rw [hb]
  apply le_antisymm
  · rw [Finset.fold_max_le]
    exact ⟨bot_le, fun n _ => (last_spec d).le n⟩
  · rw [Finset.le_fold_max]
    exact Or.inr ⟨_, Finset.mem_univ _, le_rfl⟩

/-- The greatest of the indices whose value is the maximum, every other index counted as −1, is the last index of the maximum. -/
theorem fold_last (d : Fin 8192 → EReal) :
    Finset.univ.fold IntOp.maxsi (2147483648#32)
        (fun x => if d x = Finset.univ.fold max (Ideal.ofBits FTy.f32 4286578688#32) (fun x => d x) then BitVec.ofNat 32 (x : ℕ) else 4294967295#32)
      = BitVec.ofNat 32 (last d : ℕ) := by
  rw [fold_max_eq]
  apply BitVec.eq_of_toInt_eq
  rw [fold_maxsi_toInt, toInt_idx]
  have h1 : (4294967295#32).toInt = -1 := by decide
  have h2 : (2147483648#32).toInt = -2147483648 := by decide
  apply le_antisymm
  · rw [Finset.fold_max_le, h2]
    refine ⟨by omega, fun n _ => ?_⟩
    split
    · rename_i h
      rw [toInt_idx]
      by_contra hc
      have : last d < n := by rw [Fin.lt_def]; omega
      exact absurd ((last_spec d).lt n this) (by rw [h]; exact lt_irrefl _)
    · rw [h1]; omega
  · rw [Finset.le_fold_max]
    refine Or.inr ⟨last d, Finset.mem_univ _, ?_⟩
    rw [if_pos rfl, toInt_idx]

/-- One comparison of a first arg-max: the pair already held stays if its value is greater, or equal with the smaller index. -/
def pick (a b : EReal × BitVec 32) : EReal × BitVec 32 :=
  if b.1 < a.1 ∨ (a.1 = b.1 ∧ a.2.toInt < b.2.toInt) then a else b

/-- A first arg-max over a list of (value, index) pairs: the pair found is of the list or the one begun with, its value is the greatest, and its
    index is the least among those of that value. -/
theorem foldl_pick (L : List (EReal × BitVec 32)) (a : EReal × BitVec 32) :
    (L.foldl pick a = a ∨ L.foldl pick a ∈ L) ∧ a.1 ≤ (L.foldl pick a).1 ∧ (a.1 = (L.foldl pick a).1 → (L.foldl pick a).2.toInt ≤ a.2.toInt)
      ∧ (∀ p ∈ L, p.1 ≤ (L.foldl pick a).1) ∧ ∀ p ∈ L, p.1 = (L.foldl pick a).1 → (L.foldl pick a).2.toInt ≤ p.2.toInt := by
  induction L generalizing a with
  | nil => simp
  | cons b L ih =>
    obtain ⟨h1, h2, h3, h4, h5⟩ := ih (pick a b)
    simp only [List.foldl_cons]
    generalize L.foldl pick (pick a b) = r at *
    have hp : pick a b = a ∧ (b.1 < a.1 ∨ (a.1 = b.1 ∧ a.2.toInt < b.2.toInt)) ∨ pick a b = b ∧ ¬(b.1 < a.1 ∨ (a.1 = b.1 ∧ a.2.toInt < b.2.toInt)) := by
      unfold pick
      split
      · exact Or.inl ⟨rfl, by assumption⟩
      · exact Or.inr ⟨rfl, by assumption⟩
    rcases hp with ⟨hp, hc⟩ | ⟨hp, hc⟩ <;> rw [hp] at h1 h2 h3
    · refine ⟨h1.imp id (List.mem_cons_of_mem _), h2, h3, ?_, ?_⟩
      · intro p hm
        rcases List.mem_cons.mp hm with rfl | hm
        · rcases hc with hc | ⟨hc, -⟩
          · exact hc.le.trans h2
          · exact hc ▸ h2
        · exact h4 p hm
      · intro p hm he
        rcases List.mem_cons.mp hm with rfl | hm
        · rcases hc with hc | ⟨hc, hi⟩
          · exact absurd (he ▸ hc) (not_lt.mpr h2)
          · exact (h3 (hc.trans he)).trans hi.le
        · exact h5 p hm he
    · rw [not_or, not_lt, not_and, not_lt] at hc
      refine ⟨?_, hc.1.trans h2, ?_, ?_, ?_⟩
      · rcases h1 with h1 | h1
        · exact Or.inr (h1 ▸ List.mem_cons_self)
        · exact Or.inr (List.mem_cons_of_mem _ h1)
      · intro he
        have hab : a.1 = b.1 := le_antisymm hc.1 (he ▸ h2)
        exact (h3 (hab ▸ he)).trans (hc.2 hab)
      · intro p hm
        rcases List.mem_cons.mp hm with rfl | hm
        · exact h2
        · exact h4 p hm
      · intro p hm he
        rcases List.mem_cons.mp hm with rfl | hm
        · exact h3 he
        · exact h5 p hm he

/-- A first arg-max of the reversed values, counted from the end, is the last index of the maximum. -/
theorem foldl_pick_rev (d : Fin 8192 → EReal) (L : List (EReal × BitVec 32))
    (hL : ∀ p, p ∈ L ↔ ∃ n : Fin 8192, p = (d (Fin.rev n), BitVec.ofNat 32 (n : ℕ))) :
    8191#32 - (L.foldl pick (⊥, 0#32)).2 = BitVec.ofNat 32 (last d : ℕ) := by
  obtain ⟨h1, -, -, h4, h5⟩ := foldl_pick L (⊥, 0#32)
  generalize L.foldl pick (⊥, 0#32) = r at *
  have hr : ∃ n : Fin 8192, r = (d (Fin.rev n), BitVec.ofNat 32 (n : ℕ)) := by
    rcases h1 with h1 | h1
    · have h0 := h4 _ ((hL (d (Fin.rev 0), BitVec.ofNat 32 ((0 : Fin 8192) : ℕ))).mpr ⟨0, rfl⟩)
      rw [h1] at h0
      exact ⟨0, by rw [h1]; exact Prod.ext (le_bot_iff.mp h0).symm rfl⟩
    · exact (hL r).mp h1
  obtain ⟨n, rfl⟩ := hr
  have hl : last d = Fin.rev n := by
    refine last_eq ⟨fun k => ?_, fun k hk => ?_⟩
    · have := h4 _ ((hL (d (Fin.rev (Fin.rev k)), BitVec.ofNat 32 ((Fin.rev k : Fin 8192) : ℕ))).mpr ⟨_, rfl⟩)
      rwa [Fin.rev_rev] at this
    · have hm := (hL (d (Fin.rev (Fin.rev k)), BitVec.ofNat 32 ((Fin.rev k : Fin 8192) : ℕ))).mpr ⟨_, rfl⟩
      have hle := h4 _ hm
      rw [Fin.rev_rev] at hm hle
      refine lt_of_le_of_ne hle fun he => ?_
      have := h5 _ hm he
      rw [toInt_idx, toInt_idx] at this
      rw [Fin.lt_def, Fin.val_rev] at hk
      rw [Fin.val_rev] at this
      omega
  rw [hl, Fin.val_rev]
  have := n.isLt
  apply BitVec.eq_of_toNat_eq
  simp only [BitVec.toNat_sub, BitVec.toNat_ofNat]
  omega

end Cert.Fps

end
-- ==== Proof.KernelPay.lean ====
/-
  The kernel's arithmetic read at an index: what one trip of its loop makes of the carried coordinates, the distances and the four results, against the
  state `Cert.Fps.run`.
-/
module

public import proofs.«01_k».proof.Proof.Gen.KernelIdeal.Skeleton
public import proofs.«01_k».proof.Proof.Fps
public import Idealize.ShloMosaic.Lib.Pointwise

@[expose] public section

set_option maxRecDepth 16384

noncomputable section

namespace Cert.KernelPay

open Idealize.ShloMosaic Cert.KernelIdeal Cert.KernelIdeal.Gen

/-- The positions along the axis of the points. -/
abbrev lanes : IVec S16x8192 32 := iota .tc S16x8192 32 [1] iota_S16x8192_d1_w32

/-- The positions along the axis of the samples. -/
abbrev cols : IVec S16x512 32 := iota .tc S16x512 32 [1] iota_S16x512_d1_w32

theorem pay16_eq (x : FVec Ideal S16x8192 .f32) : k0_pay16 x = x := by
  funext i
  idx_vars i
  pointwise [k0_pay16]

theorem pay17_eq (x : FVec Ideal S16x8192 .f32) : k0_pay17 x = x := by
  funext i
  idx_vars i
  pointwise [k0_pay17]

theorem pay18_eq (x : FVec Ideal S16x8192 .f32) : k0_pay18 x = x := by
  funext i
  idx_vars i
  pointwise [k0_pay18]

/-- A sum masked to one index is the value at that index. -/
theorem sum_at (f : Fin 8192 → EReal) (l : Fin 8192) :
    ∑ x : Fin 8192, Scalar.select (IntOp.cmpi .eq (BitVec.ofNat 32 (x : ℕ)) (BitVec.ofNat 32 (l : ℕ))) (f x) 0 = f l := by
  rw [Finset.sum_eq_single l]
  · simp [IntOp.cmpi, Scalar.select]
  · intro x _ hx
    have : ¬ BitVec.ofNat 32 (x : ℕ) = BitVec.ofNat 32 (l : ℕ) := fun h => hx (Fps.idx_inj h)
    simp only [IntOp.cmpi, beq_eq_false_iff_ne.mpr this]
    rfl
  · intro h
    exact absurd (Finset.mem_univ _) h

section Trip

variable (X Y Z d : FVec Ideal S16x8192 .f32) (a b c : FVec Ideal S16x1 .f32)

theorem pay6_at (r : Fin 16) (n : Fin 8192) : k0_pay6 X Y Z a b c d (ix2 r n)
    = min (d (ix2 r n)) ((X (ix2 r n) - a (ix2 r 0)) * (X (ix2 r n) - a (ix2 r 0)) + (Y (ix2 r n) - b (ix2 r 0)) * (Y (ix2 r n) - b (ix2 r 0))
        + (Z (ix2 r n) - c (ix2 r 0)) * (Z (ix2 r n) - c (ix2 r 0))) := by
  pointwise [k0_pay6]

theorem pay7_at (r : Fin 16) (n : Fin 8192) : k0_pay7 X Y Z a b c d (ix2 r n) = k0_pay6 X Y Z a b c d (ix2 r n) := by
  pointwise [k0_pay7]

theorem pay8_at (r : Fin 16) : k0_pay8 X Y Z lanes a b c d (ix2 r 0) = BitVec.ofNat 32 (Fps.last fun n => k0_pay6 X Y Z a b c d (ix2 r n) : ℕ) := by
  rw [← Fps.fold_last]
  pointwise [k0_pay8]

theorem pay15_at (r : Fin 16) : k0_pay15 X Y Z lanes a b c d (ix2 r 0) = k0_pay8 X Y Z lanes a b c d (ix2 r 0) := by
  pointwise [k0_pay15]

theorem pay10_at (r : Fin 16) : k0_pay10 X Y Z lanes a b c d (ix2 r 0) = X (ix2 r (Fps.last fun n => k0_pay6 X Y Z a b c d (ix2 r n))) := by
  rw [← sum_at (fun x => X (ix2 r x)), ← pay8_at]
  pointwise [k0_pay10, k0_pay9]

theorem pay11_at (r : Fin 16) : k0_pay11 X Y Z lanes a b c d (ix2 r 0) = Y (ix2 r (Fps.last fun n => k0_pay6 X Y Z a b c d (ix2 r n))) := by
  rw [← sum_at (fun x => Y (ix2 r x)), ← pay8_at]
  pointwise [k0_pay11, k0_pay9]

theorem pay12_at (r : Fin 16) : k0_pay12 X Y Z lanes a b c d (ix2 r 0) = Z (ix2 r (Fps.last fun n => k0_pay6 X Y Z a b c d (ix2 r n))) := by
  rw [← sum_at (fun x => Z (ix2 r x)), ← pay8_at]
  pointwise [k0_pay12, k0_pay9]

end Trip

/-- A selection on the column of trip `k`. -/
theorem mask_at {α : Type} (k : Fin k0_t1_loop.trips) (hk : (k : ℕ) < 511) (r : Fin 16) (j : Fin 512) (x y : α) :
    Scalar.select (k0_pay13 cols 1#32 1#32 k (ix2 r j)) x y = if (j : ℕ) = k + 1 then x else y := by
  have hj := j.isLt
  have e : k0_pay13 cols 1#32 1#32 k (ix2 r j) = IntOp.cmpi .eq (BitVec.ofNat 32 (j : ℕ)) (Scf.iv 1#32 1#32 k) := by
    pointwise [k0_pay13]
  have e2 : Scf.iv 1#32 1#32 (k : ℕ) = BitVec.ofNat 32 ((k : ℕ) + 1) := by
    apply BitVec.eq_of_toNat_eq
    simp [Scf.iv]
    omega
  rw [e, e2]
  by_cases h : (j : ℕ) = k + 1
  · rw [if_pos h, h]
    simp [IntOp.cmpi, Scalar.select]
  · rw [if_neg h]
    have : ¬ BitVec.ofNat 32 (j : ℕ) = BitVec.ofNat 32 ((k : ℕ) + 1) := by
      intro h'
      have := congrArg BitVec.toNat h'
      simp only [BitVec.toNat_ofNat] at this
      omega
    simp only [IntOp.cmpi, beq_eq_false_iff_ne.mpr this]
    rfl

/-! ### The state before a trip -/

section State

variable (X Y Z : FVec Ideal S16x8192 .f32)

/-- The sampling of cloud `r`. -/
def fps (r : Fin 16) (k : ℕ) : (Fin 8192 → EReal) × Fin 8192 :=
  Fps.run (fun n => X (ix2 r n)) (fun n => Y (ix2 r n)) (fun n => Z (ix2 r n)) k

/-- What the carried coordinates, the results and the distances hold before trip `k`. -/
structure At (k : ℕ) (acc : FVec Ideal S16x1 .f32 × FVec Ideal S16x1 .f32 × FVec Ideal S16x1 .f32) (ix : IVec S16x512 32)
    (lx ly lz : FVec Ideal S16x512 .f32) (d : FVec Ideal S16x8192 .f32) : Prop where
  a : ∀ r, acc.1 (ix2 r 0) = X (ix2 r (fps X Y Z r k).2)
  b : ∀ r, acc.2.1 (ix2 r 0) = Y (ix2 r (fps X Y Z r k).2)
  c : ∀ r, acc.2.2 (ix2 r 0) = Z (ix2 r (fps X Y Z r k).2)
  dist : ∀ r n, d (ix2 r n) = (fps X Y Z r k).1 n
  ix : ∀ r j, ix (ix2 r j) = if (j : ℕ) ≤ k then BitVec.ofNat 32 ((fps X Y Z r j).2 : ℕ) else 0#32
  lx : ∀ r j, lx (ix2 r j) = if (j : ℕ) ≤ k then X (ix2 r (fps X Y Z r j).2) else 0
  ly : ∀ r j, ly (ix2 r j) = if (j : ℕ) ≤ k then Y (ix2 r (fps X Y Z r j).2) else 0
  lz : ∀ r j, lz (ix2 r j) = if (j : ℕ) ≤ k then Z (ix2 r (fps X Y Z r j).2) else 0

theorem le_zero_iff_cmpi (j : Fin 512) {α : Type} (x y : α) :
    Scalar.select (IntOp.cmpi .eq (BitVec.ofNat 32 (j : ℕ)) 0#32) x y = if (j : ℕ) ≤ 0 then x else y := by
  have hj := j.isLt
  by_cases h : (j : ℕ) = 0
  · rw [if_pos (by omega), h]
    rfl
  · rw [if_neg (by omega)]
    have : ¬ BitVec.ofNat 32 (j : ℕ) = 0#32 := by
      intro h'
      have := congrArg BitVec.toNat h'
      simp only [BitVec.toNat_ofNat] at this
      omega
    simp only [IntOp.cmpi, beq_eq_false_iff_ne.mpr this]
    rfl

theorem at_init : At X Y Z 0 (k0_pay19 X, k0_pay20 Y, k0_pay21 Z) k0_pay22 (k0_pay23 X) (k0_pay24 Y) (k0_pay25 Z)
    (k0_pay1 (Scalar.ofBits (F := Ideal) .f32 0x7F800000#32)) where
  a r := by
    pointwise [k0_pay19, k0_pay16]
    rfl
  b r := by
    pointwise [k0_pay20, k0_pay17]
    rfl
  c r := by
    pointwise [k0_pay21, k0_pay18]
    rfl
  dist r n := by
    pointwise [k0_pay1]
    show _ = (⊤ : EReal)
    simp [Ideal.ofBits, Ideal.ieee]
  ix r j := by
    pointwise [k0_pay22]
    split
    · rename_i h
      have e : (j : ℕ) = 0 := by omega
      rw [e]
      rfl
    · rfl
  lx r j := by
    pointwise [k0_pay23, k0_pay19, k0_pay16]
    rw [le_zero_iff_cmpi]
    split
    · rename_i h
      have e : (j : ℕ) = 0 := by omega
      rw [e]
      rfl
    · rfl
  ly r j := by
    pointwise [k0_pay24, k0_pay20, k0_pay17]
    rw [le_zero_iff_cmpi]
    split
    · rename_i h
      have e : (j : ℕ) = 0 := by omega
      rw [e]
      rfl
    · rfl
  lz r j := by
    pointwise [k0_pay25, k0_pay21, k0_pay18]
    rw [le_zero_iff_cmpi]
    split
    · rename_i h
      have e : (j : ℕ) = 0 := by omega
      rw [e]
      rfl
    · rfl

variable {X Y Z} {acc : FVec Ideal S16x1 .f32 × FVec Ideal S16x1 .f32 × FVec Ideal S16x1 .f32} {ix : IVec S16x512 32}
    {lx ly lz : FVec Ideal S16x512 .f32} {d : FVec Ideal S16x8192 .f32}

theorem at_dist {k : ℕ} (h : At X Y Z k acc ix lx ly lz d) (r : Fin 16) (n : Fin 8192) :
    k0_pay6 X Y Z acc.1 acc.2.1 acc.2.2 d (ix2 r n) = (fps X Y Z r (k + 1)).1 n := by
  rw [pay6_at, h.a, h.b, h.c, h.dist]
  rfl

theorem at_last {k : ℕ} (h : At X Y Z k acc ix lx ly lz d) (r : Fin 16) :
    (Fps.last fun n => k0_pay6 X Y Z acc.1 acc.2.1 acc.2.2 d (ix2 r n)) = (fps X Y Z r (k + 1)).2 := by
  show _ = Fps.last _
  congr 1
  funext n
  exact at_dist h r n

/-- A selection on the column of trip `k` steps what the columns hold. -/
theorem step_sel {α : Type} (j : Fin 512) (k : ℕ) (f : ℕ → α) (z : α) :
    (if (j : ℕ) = k + 1 then f (k + 1) else if (j : ℕ) ≤ k then f j else z) = if (j : ℕ) ≤ k + 1 then f j else z := by
  by_cases h : (j : ℕ) = k + 1
  · rw [if_pos h, if_pos (by omega), h]
  · rw [if_neg h]
    have : (j : ℕ) ≤ k ↔ (j : ℕ) ≤ k + 1 := by omega
    simp only [this]

theorem at_step (k : Fin k0_t1_loop.trips) (hk : (k : ℕ) < 511) (h : At X Y Z k acc ix lx ly lz d) :
    At X Y Z (k + 1)
      (k0_pay10 X Y Z lanes acc.1 acc.2.1 acc.2.2 d, k0_pay11 X Y Z lanes acc.1 acc.2.1 acc.2.2 d, k0_pay12 X Y Z lanes acc.1 acc.2.1 acc.2.2 d)
      (k0_pay2 (k0_pay13 cols 1#32 1#32 k) (k0_pay14 (F := Ideal) ix) (k0_pay15 X Y Z lanes acc.1 acc.2.1 acc.2.2 d))
      (k0_pay3 (k0_pay10 X Y Z lanes acc.1 acc.2.1 acc.2.2 d) (k0_pay13 cols 1#32 1#32 k) lx)
      (k0_pay4 (k0_pay11 X Y Z lanes acc.1 acc.2.1 acc.2.2 d) (k0_pay13 cols 1#32 1#32 k) ly)
      (k0_pay5 (k0_pay12 X Y Z lanes acc.1 acc.2.1 acc.2.2 d) (k0_pay13 cols 1#32 1#32 k) lz)
      (k0_pay7 X Y Z acc.1 acc.2.1 acc.2.2 d) where
  a r := by
    show k0_pay10 X Y Z lanes acc.1 acc.2.1 acc.2.2 d (ix2 r 0) = _
    rw [pay10_at, at_last h]
  b r := by
    show k0_pay11 X Y Z lanes acc.1 acc.2.1 acc.2.2 d (ix2 r 0) = _
    rw [pay11_at, at_last h]
  c r := by
    show k0_pay12 X Y Z lanes acc.1 acc.2.1 acc.2.2 d (ix2 r 0) = _
    rw [pay12_at, at_last h]
  dist r n := by rw [pay7_at, at_dist h]
  ix r j := by
    pointwise [k0_pay2, k0_pay14]
    rw [mask_at k hk, h.ix, pay15_at, pay8_at, at_last h]
    exact step_sel j k (fun i => BitVec.ofNat 32 ((fps X Y Z r i).2 : ℕ)) _
  lx r j := by
    pointwise [k0_pay3]
    rw [mask_at k hk, h.lx, pay10_at, at_last h]
    exact step_sel j k (fun i => X (ix2 r (fps X Y Z r i).2)) _
  ly r j := by
    pointwise [k0_pay4]
    rw [mask_at k hk, h.ly, pay11_at, at_last h]
    exact step_sel j k (fun i => Y (ix2 r (fps X Y Z r i).2)) _
  lz r j := by
    pointwise [k0_pay5]
    rw [mask_at k hk, h.lz, pay12_at, at_last h]
    exact step_sel j k (fun i => Z (ix2 r (fps X Y Z r i).2)) _

end State

end Cert.KernelPay

end
-- ==== Proof.KernelRun.lean ====
/-
  The kernel's loop over its buffers: before trip `k` the carried coordinates, the four output buffers and the distances hold what
  `Cert.KernelPay.At` says, so the four outputs end as the positions and the coordinates of the chosen points.
-/
module

public import proofs.«01_k».proof.Proof.Gen.KernelIdeal.Frame
public import proofs.«01_k».proof.Proof.KernelPay
public import Idealize.ShloMosaic.Lib.VecWindow

@[expose] public section

set_option maxRecDepth 16384

noncomputable section

namespace Cert.KernelRun

open Idealize.ShloMosaic Idealize.ShloMosaic.TcCoe Cert.KernelIdeal Cert.KernelIdeal.Gen Cert.KernelPay

section Trip

variable (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .i32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x8192 .f32) (harg7 : arg7.IsWhole)
  (X Y Z : FVec Ideal S16x8192 .f32)
  (G3 : BufTy.Contents (Elt Ideal) arg3.view.ty) (G4 : BufTy.Contents (Elt Ideal) arg4.view.ty) (G5 : BufTy.Contents (Elt Ideal) arg5.view.ty)
  (G6 : BufTy.Contents (Elt Ideal) arg6.view.ty) (G7 : BufTy.Contents (Elt Ideal) arg7.view.ty)
  (init : FVec Ideal S16x1 .f32 × FVec Ideal S16x1 .f32 × FVec Ideal S16x1 .f32)

/-- The state of the buffers before trip `k`. -/
abbrev st (k : ℕ) := st_k0_t1 (F := Ideal) 𝒱 c bd arg0 harg0 arg1 harg1 arg2 harg2 arg3 harg3 arg4 harg4 arg5 harg5 arg6 harg6 arg7 harg7 X Y Z lanes cols G3 G4 G5 G6 G7 init k

/-- The rectangle of a whole output. -/
abbrev rO : Rect S16x512 := Rect.unit (s := S16x512) ![0, 0] S16x512.size inb_S16x512_S16x512_0_0

/-- The rectangle of the whole array of distances. -/
abbrev rD : Rect S16x8192 := Rect.unit (s := S16x8192) ![0, 0] S16x8192.size inb_S16x8192_S16x8192_0_0

theorem rd_O {e : EltTy} (v : View sig .tc .vmem S16x512 e) (f : v.ty.Contents (Elt Ideal)) :
    v.readAt (Elt Ideal) rO.toLoadRect f = v.read (Elt Ideal) f := View.readAt_full (s := S16x512) v f inb_S16x512_S16x512_0_0

theorem rd_D {e : EltTy} (v : View sig .tc .vmem S16x8192 e) (f : v.ty.Contents (Elt Ideal)) :
    v.readAt (Elt Ideal) rD.toLoadRect f = v.read (Elt Ideal) f := View.readAt_full (s := S16x8192) v f inb_S16x8192_S16x8192_0_0

theorem st_next (k : Fin k0_t1_loop.trips) (acc : FVec Ideal S16x1 .f32 × FVec Ideal S16x1 .f32 × FVec Ideal S16x1 .f32) (L3 L4 L5 L6 L7)
    (h : st 𝒱 c bd arg0 harg0 arg1 harg1 arg2 harg2 arg3 harg3 arg4 harg4 arg5 harg5 arg6 harg6 arg7 harg7 X Y Z G3 G4 G5 G6 G7 init k = (acc, L3, L4, L5, L6, L7))
    (x3 : IVec S16x512 32) (x4 x5 x6 : FVec Ideal S16x512 .f32) (x7 : FVec Ideal S16x8192 .f32)
    (h3 : arg3.view.read (Elt Ideal) (arg3.view.writes (Elt Ideal) G3 L3) = x3)
    (h4 : arg4.view.read (Elt Ideal) (arg4.view.writes (Elt Ideal) G4 L4) = x4)
    (h5 : arg5.view.read (Elt Ideal) (arg5.view.writes (Elt Ideal) G5 L5) = x5)
    (h6 : arg6.view.read (Elt Ideal) (arg6.view.writes (Elt Ideal) G6 L6) = x6)
    (h7 : arg7.view.read (Elt Ideal) (arg7.view.writes (Elt Ideal) G7 L7) = x7) :
    st 𝒱 c bd arg0 harg0 arg1 harg1 arg2 harg2 arg3 harg3 arg4 harg4 arg5 harg5 arg6 harg6 arg7 harg7 X Y Z G3 G4 G5 G6 G7 init (k + 1) =
      ((k0_pay10 X Y Z lanes acc.1 acc.2.1 acc.2.2 x7, k0_pay11 X Y Z lanes acc.1 acc.2.1 acc.2.2 x7, k0_pay12 X Y Z lanes acc.1 acc.2.1 acc.2.2 x7),
       ⟨rO, k0_pay2 (k0_pay13 cols 1#32 1#32 k) (k0_pay14 (F := Ideal) x3) (k0_pay15 X Y Z lanes acc.1 acc.2.1 acc.2.2 x7)⟩ :: L3,
       ⟨rO, k0_pay3 (k0_pay10 X Y Z lanes acc.1 acc.2.1 acc.2.2 x7) (k0_pay13 cols 1#32 1#32 k) x4⟩ :: L4,
       ⟨rO, k0_pay4 (k0_pay11 X Y Z lanes acc.1 acc.2.1 acc.2.2 x7) (k0_pay13 cols 1#32 1#32 k) x5⟩ :: L5,
       ⟨rO, k0_pay5 (k0_pay12 X Y Z lanes acc.1 acc.2.1 acc.2.2 x7) (k0_pay13 cols 1#32 1#32 k) x6⟩ :: L6,
       ⟨rD, k0_pay7 X Y Z acc.1 acc.2.1 acc.2.2 x7⟩ :: L7) := by
  rw [← rd_O] at h3 h4 h5 h6
  rw [← rd_D] at h7
  subst h3 h4 h5 h6 h7
  unfold st at h ⊢
  rw [st_k0_t1_succ, h]
  unfold tripR_k0_t1 tripL_k0_t1 trip_k0_t1
  dsimp only
  rfl

/-- Before trip `k` there are piece lists whose writes leave the state `At`. -/
theorem st_at (h0 : At X Y Z 0 init (arg3.view.read (Elt Ideal) G3) (arg4.view.read (Elt Ideal) G4) (arg5.view.read (Elt Ideal) G5)
      (arg6.view.read (Elt Ideal) G6) (arg7.view.read (Elt Ideal) G7)) : ∀ k, k ≤ k0_t1_loop.trips → k ≤ 511 →
    ∃ acc L3 L4 L5 L6 L7, st 𝒱 c bd arg0 harg0 arg1 harg1 arg2 harg2 arg3 harg3 arg4 harg4 arg5 harg5 arg6 harg6 arg7 harg7 X Y Z G3 G4 G5 G6 G7 init k = (acc, L3, L4, L5, L6, L7)
      ∧ At X Y Z k acc (arg3.view.read (Elt Ideal) (arg3.view.writes (Elt Ideal) G3 L3)) (arg4.view.read (Elt Ideal) (arg4.view.writes (Elt Ideal) G4 L4))
          (arg5.view.read (Elt Ideal) (arg5.view.writes (Elt Ideal) G5 L5)) (arg6.view.read (Elt Ideal) (arg6.view.writes (Elt Ideal) G6 L6))
          (arg7.view.read (Elt Ideal) (arg7.view.writes (Elt Ideal) G7 L7)) := by
  intro k
  induction k with
  | zero =>
    intro _ _
    exact ⟨_, _, _, _, _, _, rfl, h0⟩
  | succ k ih =>
    intro hk hk'
    obtain ⟨acc, L3, L4, L5, L6, L7, e, h⟩ := ih (Nat.le_of_succ_le hk) (Nat.le_of_succ_le hk')
    have e' := st_next 𝒱 c bd arg0 harg0 arg1 harg1 arg2 harg2 arg3 harg3 arg4 harg4 arg5 harg5 arg6 harg6 arg7 harg7 X Y Z G3 G4 G5 G6 G7 init
      ⟨k, hk⟩ acc L3 L4 L5 L6 L7 e _ _ _ _ _ rfl rfl rfl rfl rfl
    refine ⟨_, _, _, _, _, _, e', ?_⟩
    rw [View.read_writes_full, View.read_writes_full, View.read_writes_full, View.read_writes_full, View.read_writes_full]
    exact at_step ⟨k, hk⟩ hk' h

/-- After the last trip each output's piece list begins with a store of the whole output, of what `At` says. -/
theorem st_last (h0 : At X Y Z 0 init (arg3.view.read (Elt Ideal) G3) (arg4.view.read (Elt Ideal) G4) (arg5.view.read (Elt Ideal) G5)
      (arg6.view.read (Elt Ideal) G6) (arg7.view.read (Elt Ideal) G7)) (ht : k0_t1_loop.trips = 511) :
    ∃ acc d x3 x4 x5 x6 L3 L4 L5 L6 L7, st 𝒱 c bd arg0 harg0 arg1 harg1 arg2 harg2 arg3 harg3 arg4 harg4 arg5 harg5 arg6 harg6 arg7 harg7 X Y Z G3 G4 G5 G6 G7 init 511
        = (acc, ⟨rO, x3⟩ :: L3, ⟨rO, x4⟩ :: L4, ⟨rO, x5⟩ :: L5, ⟨rO, x6⟩ :: L6, L7)
      ∧ At X Y Z 511 acc x3 x4 x5 x6 d := by
  obtain ⟨acc, L3, L4, L5, L6, L7, e, h⟩ := st_at 𝒱 c bd arg0 harg0 arg1 harg1 arg2 harg2 arg3 harg3 arg4 harg4 arg5 harg5 arg6 harg6 arg7 harg7 X Y Z G3 G4 G5 G6 G7 init h0
    510 (by omega) (by omega)
  have e' := st_next 𝒱 c bd arg0 harg0 arg1 harg1 arg2 harg2 arg3 harg3 arg4 harg4 arg5 harg5 arg6 harg6 arg7 harg7 X Y Z G3 G4 G5 G6 G7 init
    ⟨510, by omega⟩ acc L3 L4 L5 L6 L7 e _ _ _ _ _ rfl rfl rfl rfl rfl
  exact ⟨_, _, _, _, _, _, _, _, _, _, _, e', at_step ⟨510, by omega⟩ (by show 510 < 511; omega) h⟩

end Trip

theorem trips_eq : k0_t1_loop.trips = 511 := by decide

section Body

variable (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .i32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x8192 .f32) (harg7 : arg7.IsWhole)
  (x0 x1 x2 : FVec Ideal S16x8192 .f32)

/-- The body leaves in its four outputs the positions and the coordinates of the points chosen from what its three inputs hold. -/
theorem outs : ∃ acc d, At x0 x1 x2 511 acc
    (out0_A_3 (F := Ideal) c arg0 harg0 arg1 harg1 arg2 harg2 arg3 harg3 arg4 harg4 arg5 harg5 arg6 harg6 arg7 harg7 x0 x1 x2)
    (out0_A_4 (F := Ideal) c arg0 harg0 arg1 harg1 arg2 harg2 arg3 harg3 arg4 harg4 arg5 harg5 arg6 harg6 arg7 harg7 x0 x1 x2)
    (out0_A_5 (F := Ideal) c arg0 harg0 arg1 harg1 arg2 harg2 arg3 harg3 arg4 harg4 arg5 harg5 arg6 harg6 arg7 harg7 x0 x1 x2)
    (out0_A_6 (F := Ideal) c arg0 harg0 arg1 harg1 arg2 harg2 arg3 harg3 arg4 harg4 arg5 harg5 arg6 harg6 arg7 harg7 x0 x1 x2) d := by
  have q0 : arg0.view.readAt (Elt Ideal) rD.toLoadRect (harg0.unread x0) = x0 := (rd_D _ _).trans (harg0.read_unread _)
  have q1 : arg1.view.readAt (Elt Ideal) rD.toLoadRect (harg1.unread x1) = x1 := (rd_D _ _).trans (harg1.read_unread _)
  have q2 : arg2.view.readAt (Elt Ideal) rD.toLoadRect (harg2.unread x2) = x2 := (rd_D _ _).trans (harg2.read_unread _)
  have e0 : kernelRun0_A.sl.r (F := Ideal) c arg0 harg0 x0 = x0 := (congrArg k0_pay16 q0).trans (pay16_eq x0)
  have e1 : kernelRun0_A.sl.r_1 (F := Ideal) c arg1 harg1 x1 = x1 := (congrArg k0_pay17 q1).trans (pay17_eq x1)
  have e2 : kernelRun0_A.sl.r_2 (F := Ideal) c arg2 harg2 x2 = x2 := (congrArg k0_pay18 q2).trans (pay18_eq x2)
  have e3 : kernelRun0_A.sl.r_3 (F := Ideal) c arg0 harg0 x0 = k0_pay19 x0 := congrArg k0_pay19 q0
  have e4 : kernelRun0_A.sl.r_4 (F := Ideal) c arg1 harg1 x1 = k0_pay20 x1 := congrArg k0_pay20 q1
  have e5 : kernelRun0_A.sl.r_5 (F := Ideal) c arg2 harg2 x2 = k0_pay21 x2 := congrArg k0_pay21 q2
  have p3 : kernelRun0_A.sl.H3_1 (F := Ideal) = [⟨rO, k0_pay22⟩] := rfl
  have p4 : kernelRun0_A.sl.H4_1 (F := Ideal) c arg0 harg0 x0 = [⟨rO, k0_pay23 (F := Ideal) x0⟩] := by
    refine Eq.trans (b := [⟨rO, k0_pay23 (F := Ideal) (arg0.view.readAt (Elt Ideal) rD.toLoadRect (harg0.unread x0))⟩]) rfl ?_
    rw [q0]
  have p5 : kernelRun0_A.sl.H5_1 (F := Ideal) c arg1 harg1 x1 = [⟨rO, k0_pay24 (F := Ideal) x1⟩] := by
    refine Eq.trans (b := [⟨rO, k0_pay24 (F := Ideal) (arg1.view.readAt (Elt Ideal) rD.toLoadRect (harg1.unread x1))⟩]) rfl ?_
    rw [q1]
  have p6 : kernelRun0_A.sl.H6_1 (F := Ideal) c arg2 harg2 x2 = [⟨rO, k0_pay25 (F := Ideal) x2⟩] := by
    refine Eq.trans (b := [⟨rO, k0_pay25 (F := Ideal) (arg2.view.readAt (Elt Ideal) rD.toLoadRect (harg2.unread x2))⟩]) rfl ?_
    rw [q2]
  have p7 : kernelRun0_A.sl.HS0_1 (F := Ideal) = [⟨rD, k0_pay1 (Scalar.ofBits (F := Ideal) .f32 0x7F800000#32)⟩] := rfl
  have h0 : At x0 x1 x2 0 (k0_pay19 x0, k0_pay20 x1, k0_pay21 x2)
      (arg3.view.read (Elt Ideal) (arg3.view.writes (Elt Ideal) arg3.view.junk [⟨rO, k0_pay22⟩]))
      (arg4.view.read (Elt Ideal) (arg4.view.writes (Elt Ideal) arg4.view.junk [⟨rO, k0_pay23 (F := Ideal) x0⟩]))
      (arg5.view.read (Elt Ideal) (arg5.view.writes (Elt Ideal) arg5.view.junk [⟨rO, k0_pay24 (F := Ideal) x1⟩]))
      (arg6.view.read (Elt Ideal) (arg6.view.writes (Elt Ideal) arg6.view.junk [⟨rO, k0_pay25 (F := Ideal) x2⟩]))
      (arg7.view.read (Elt Ideal) (arg7.view.writes (Elt Ideal) arg7.view.junk [⟨rD, k0_pay1 (Scalar.ofBits (F := Ideal) .f32 0x7F800000#32)⟩])) := by
    rw [View.read_writes_full, View.read_writes_full, View.read_writes_full, View.read_writes_full, View.read_writes_full]
    exact at_init x0 x1 x2
  obtain ⟨acc, d, x3, x4, x5, x6, L3, L4, L5, L6, L7, e, h⟩ := st_last Variants.none c none arg0 harg0 arg1 harg1 arg2 harg2 arg3 harg3 arg4 harg4 arg5 harg5 arg6 harg6 arg7 harg7
    x0 x1 x2 _ _ _ _ _ _ h0 trips_eq
  refine ⟨acc, d, ?_⟩
  unfold out0_A_3 out0_A_4 out0_A_5 out0_A_6 kernelRun0_A
  dsimp only
  rw [e0, e1, e2, e3, e4, e5, p3, p4, p5, p6, p7, show Scf.trips (1#32) (Scalar.addi 1#32 511#32) 1#32 = 511 from trips_eq]
  rw [show kernelRun0_A.sl.v6 = lanes from rfl, show kernelRun0_A.sl.v7 = cols from rfl]
  unfold st at e
  rw [e]
  dsimp only
  rw [List.cons_append, List.cons_append, List.cons_append, List.cons_append, View.read_writes_full, View.read_writes_full, View.read_writes_full, View.read_writes_full]
  exact h

end Body

end Cert.KernelRun

end
-- ==== Proof.RefStep.lean ====
/- One trip of the reference's loop as standalone definitions: the state a trip hands the next, every value @main computes before the loop without
   reading an argument (`K_…`), every operation of the body its own value (`b‹k› j s`, in the body's order, of the trip's number `j` and the state
   `s`), `init`, `step`, and the two results (`R_…`). -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v3_2 : (⟨S_, .i32⟩ : BufTy).Contents (Elt F)
  main_v3_3 : (⟨S16x512, .i32⟩ : BufTy).Contents (Elt F)
  main_v3_4 : (⟨S16x1, .i32⟩ : BufTy).Contents (Elt F)
  main_v3_5 : (⟨S16x8192, .f32⟩ : BufTy).Contents (Elt F)
  main_v3_0 : (⟨S16x8192x3, .f32⟩ : BufTy).Contents (Elt F)

/-! What @main computes before the loop without reading an argument. -/

def K_main_c : (⟨S_, .i32⟩ : BufTy).Contents (Elt F) := constantI S_ 32 0#32
def K_main_v0 : (⟨S16x512, .i32⟩ : BufTy).Contents (Elt F) := broadcastInDim S16x512 ![] bcast_S_S16x512 ((K_main_c (F := F)))
def K_main_c_0 : (⟨S_, .i32⟩ : BufTy).Contents (Elt F) := constantI S_ 32 0#32
def K_main_v1 : (⟨S16x1, .i32⟩ : BufTy).Contents (Elt F) := broadcastInDim S16x1 ![] bcast_S_S16x1 ((K_main_c_0 (F := F)))
def K_main_cst : (⟨S_, .f32⟩ : BufTy).Contents (Elt F) := constant S_ .f32 0x7F800000#32
def K_main_v2 : (⟨S16x8192, .f32⟩ : BufTy).Contents (Elt F) := broadcastInDim S16x8192 ![] bcast_S_S16x8192 ((K_main_cst (F := F)))
def K_main_c_1 : (⟨S_, .i32⟩ : BufTy).Contents (Elt F) := constantI S_ 32 1#32
def K_main_c_2 : (⟨S_, .i32⟩ : BufTy).Contents (Elt F) := constantI S_ 32 0#32

/-! One trip's values, in the body's order. -/

def b0 (j : ℕ) (s : State F) : (⟨S_, .i32⟩ : BufTy).Contents (Elt F) :=
  constantI S_ 32 1#32
def b1 (j : ℕ) (s : State F) : (⟨S_, .i32⟩ : BufTy).Contents (Elt F) :=
  addi (s.main_v3_2) ((b0 j s))
def b2 (j : ℕ) (s : State F) : (⟨S16x1x1, .i32⟩ : BufTy).Contents (Elt F) :=
  broadcastInDim S16x1x1 ![0, 1] bcast_S16x1_S16x1x1_0_1 (s.main_v3_4)
def b3 (j : ℕ) (s : State F) : (⟨S_, .i32⟩ : BufTy).Contents (Elt F) :=
  constantI S_ 32 0#32
def b4 (j : ℕ) (s : State F) : (⟨S16x1x1, .i32⟩ : BufTy).Contents (Elt F) :=
  broadcastInDim S16x1x1 ![] bcast_S_S16x1x1 ((b3 j s))
def b5 (j : ℕ) (s : State F) : (⟨S16x1x1, .i1⟩ : BufTy).Contents (Elt F) :=
  cmpi .slt ((b2 j s)) ((b4 j s))
def b6 (j : ℕ) (s : State F) : (⟨S_, .i32⟩ : BufTy).Contents (Elt F) :=
  constantI S_ 32 8192#32
def b7 (j : ℕ) (s : State F) : (⟨S16x1x1, .i32⟩ : BufTy).Contents (Elt F) :=
  broadcastInDim S16x1x1 ![] bcast_S_S16x1x1 ((b6 j s))
def b8 (j : ℕ) (s : State F) : (⟨S16x1x1, .i32⟩ : BufTy).Contents (Elt F) :=
  addi ((b2 j s)) ((b7 j s))
def b9 (j : ℕ) (s : State F) : (⟨S16x1x1, .i32⟩ : BufTy).Contents (Elt F) :=
  select ((b5 j s)) ((b8 j s)) ((b2 j s))
def b10 (j : ℕ) (s : State F) : (⟨S1, .i32⟩ : BufTy).Contents (Elt F) :=
  constantI S1 32 8191#32
def b11 (j : ℕ) (s : State F) : (⟨S_, .i32⟩ : BufTy).Contents (Elt F) :=
  constantI S_ 32 0#32
def b12 (j : ℕ) (s : State F) : (⟨S16x1x1, .i32⟩ : BufTy).Contents (Elt F) :=
  broadcastInDim S16x1x1 ![] bcast_S_S16x1x1 ((b11 j s))
def b13 (j : ℕ) (s : State F) : (⟨S16x1x1, .i1⟩ : BufTy).Contents (Elt F) :=
  cmpi .sge ((b9 j s)) ((b12 j s))
def b14 (j : ℕ) (s : State F) : (⟨S1x1x1, .i32⟩ : BufTy).Contents (Elt F) :=
  broadcastInDim S1x1x1 ![2] bcast_S1_S1x1x1_2 ((b10 j s))
def b15 (j : ℕ) (s : State F) : (⟨S16x1x1, .i32⟩ : BufTy).Contents (Elt F) :=
  broadcastInDim S16x1x1 ![0, 1, 2] bcast_S1x1x1_S16x1x1_0_1_2 ((b14 j s))
def b16 (j : ℕ) (s : State F) : (⟨S16x1x1, .i1⟩ : BufTy).Contents (Elt F) :=
  cmpi .sle ((b9 j s)) ((b15 j s))
def b17 (j : ℕ) (s : State F) : (⟨S16x1x1, .i1⟩ : BufTy).Contents (Elt F) :=
  andi ((b13 j s)) ((b16 j s))
def b18 (j : ℕ) (s : State F) : (⟨S_, .i1⟩ : BufTy).Contents (Elt F) :=
  constantI S_ 1 1#1
def b19 (j : ℕ) (s : State F) : (⟨S16x1, .i1⟩ : BufTy).Contents (Elt F) :=
  Host.reduce IntOp.andi ((b17 j s)) ((b18 j s)) reducesTo_S16x1x1_S16x1_d2 h_S_
def b20 (j : ℕ) (s : State F) : (⟨S16x1x3, .f32⟩ : BufTy).Contents (Elt F) :=
  Host.gather gather_S16x8192x3_S16x1x1_S16x1x3_2_1_0_0_1_2_113 (s.main_v3_0) ((b9 j s))
def b21 (j : ℕ) (s : State F) : (⟨S16x1x3, .i1⟩ : BufTy).Contents (Elt F) :=
  broadcastInDim S16x1x3 ![0, 1] bcast_S16x1_S16x1x3_0_1 ((b19 j s))
def b22 (j : ℕ) (s : State F) : (⟨S_, .f32⟩ : BufTy).Contents (Elt F) :=
  constant S_ .f32 0x7FC00000#32
def b23 (j : ℕ) (s : State F) : (⟨S16x1x3, .f32⟩ : BufTy).Contents (Elt F) :=
  broadcastInDim S16x1x3 ![] bcast_S_S16x1x3 ((b22 j s))
def b24 (j : ℕ) (s : State F) : (⟨S16x1x3, .f32⟩ : BufTy).Contents (Elt F) :=
  select ((b21 j s)) ((b20 j s)) ((b23 j s))
def b25 (j : ℕ) (s : State F) : (⟨S16x8192x3, .f32⟩ : BufTy).Contents (Elt F) :=
  broadcastInDim S16x8192x3 ![0, 1, 2] bcast_S16x1x3_S16x8192x3_0_1_2 ((b24 j s))
def b26 (j : ℕ) (s : State F) : (⟨S16x8192x3, .f32⟩ : BufTy).Contents (Elt F) :=
  subf (s.main_v3_0) ((b25 j s))
def b27 (j : ℕ) (s : State F) : (⟨S16x8192x3, .f32⟩ : BufTy).Contents (Elt F) :=
  mulf ((b26 j s)) ((b26 j s))
def b28 (j : ℕ) (s : State F) : (⟨S_, .f32⟩ : BufTy).Contents (Elt F) :=
  constant S_ .f32 0x00000000#32
def b29 (j : ℕ) (s : State F) : (⟨S16x8192, .f32⟩ : BufTy).Contents (Elt F) :=
  Host.reduceAdd ((b27 j s)) ((b28 j s)) reducesTo_S16x8192x3_S16x8192_d2 h_S_
def b30 (j : ℕ) (s : State F) : (⟨S16x8192, .f32⟩ : BufTy).Contents (Elt F) :=
  minimumf (s.main_v3_5) ((b29 j s))
def b31 (j : ℕ) (s : State F) : (⟨S16x8192, .f32⟩ : BufTy).Contents (Elt F) :=
  Host.reverse [1] ((b30 j s))
def b32 (j : ℕ) (s : State F) : (⟨S16x8192, .i32⟩ : BufTy).Contents (Elt F) :=
  iotaInDim S16x8192 32 1
def b33 (j : ℕ) (s : State F) : (⟨S_, .f32⟩ : BufTy).Contents (Elt F) :=
  constant S_ .f32 0xFF800000#32
def b34 (j : ℕ) (s : State F) : (⟨S_, .i32⟩ : BufTy).Contents (Elt F) :=
  constantI S_ 32 0#32
def b35 (j : ℕ) (s : State F) : (⟨S16, .f32⟩ : BufTy).Contents (Elt F) :=
  (fun jj => (Host.argReduce reducer_argmax_f32_i32 ((b31 j s)) ((b32 j s)) ((b33 j s)) ((b34 j s)) reducesTo_S16x8192_S16_d1 h_S_ jj).1)
def b36 (j : ℕ) (s : State F) : (⟨S16, .i32⟩ : BufTy).Contents (Elt F) :=
  (fun jj => (Host.argReduce reducer_argmax_f32_i32 ((b31 j s)) ((b32 j s)) ((b33 j s)) ((b34 j s)) reducesTo_S16x8192_S16_d1 h_S_ jj).2)
def b37 (j : ℕ) (s : State F) : (⟨S16x1, .i32⟩ : BufTy).Contents (Elt F) :=
  broadcastInDim S16x1 ![0] bcast_S16_S16x1_0 ((b36 j s))
def b38 (j : ℕ) (s : State F) : (⟨S_, .i32⟩ : BufTy).Contents (Elt F) :=
  constantI S_ 32 8191#32
def b39 (j : ℕ) (s : State F) : (⟨S16x1, .i32⟩ : BufTy).Contents (Elt F) :=
  broadcastInDim S16x1 ![] bcast_S_S16x1 ((b38 j s))
def b40 (j : ℕ) (s : State F) : (⟨S16x1, .i32⟩ : BufTy).Contents (Elt F) :=
  subi ((b39 j s)) ((b37 j s))
def b41 (j : ℕ) (s : State F) : (⟨S_, .i32⟩ : BufTy).Contents (Elt F) :=
  constantI S_ 32 0#32
def b42 (j : ℕ) (s : State F) : (⟨S_, .i1⟩ : BufTy).Contents (Elt F) :=
  cmpi .slt (s.main_v3_2) ((b41 j s))
def b43 (j : ℕ) (s : State F) : (⟨S_, .i32⟩ : BufTy).Contents (Elt F) :=
  id (s.main_v3_2)
def b44 (j : ℕ) (s : State F) : (⟨S_, .i32⟩ : BufTy).Contents (Elt F) :=
  constantI S_ 32 512#32
def b45 (j : ℕ) (s : State F) : (⟨S_, .i32⟩ : BufTy).Contents (Elt F) :=
  addi ((b43 j s)) ((b44 j s))
def b46 (j : ℕ) (s : State F) : (⟨S_, .i32⟩ : BufTy).Contents (Elt F) :=
  select ((b42 j s)) ((b45 j s)) (s.main_v3_2)
def b47 (j : ℕ) (s : State F) : (⟨S_, .i32⟩ : BufTy).Contents (Elt F) :=
  constantI S_ 32 0#32
def b48 (j : ℕ) (s : State F) : (⟨S16x512, .i32⟩ : BufTy).Contents (Elt F) :=
  Host.dynamicUpdateSlice (s.main_v3_3) ((b40 j s)) (fun k => (((![(b47 j s), (b46 j s)] : Fin 2 → (⟨S_, .i32⟩ : BufTy).Contents (Elt F))) k (Shape.Idx.first h_S_)).toInt) updateFits_S16x512_S16x1

/-- The state @main hands the first trip, of the arguments it copies in. -/
def init (main_arg0 : (⟨S16x8192x3, .f32⟩ : BufTy).Contents (Elt F)) : State F :=
  { main_v3_2 := K_main_c_1 (F := F), main_v3_3 := K_main_v0 (F := F), main_v3_4 := K_main_v1 (F := F), main_v3_5 := K_main_v2 (F := F), main_v3_0 := main_arg0 }

/-- One trip. -/
def step (j : ℕ) (s : State F) : State F :=
  { main_v3_2 := b1 j s, main_v3_3 := b48 j s, main_v3_4 := b40 j s, main_v3_5 := b30 j s, main_v3_0 := s.main_v3_0 }
theorem step_main_v3_2 (j : ℕ) (s : State F) : (step j s).main_v3_2 = b1 j s := by unfold step; rfl
theorem step_main_v3_3 (j : ℕ) (s : State F) : (step j s).main_v3_3 = b48 j s := by unfold step; rfl
theorem step_main_v3_4 (j : ℕ) (s : State F) : (step j s).main_v3_4 = b40 j s := by unfold step; rfl
theorem step_main_v3_5 (j : ℕ) (s : State F) : (step j s).main_v3_5 = b30 j s := by unfold step; rfl

/-- `main_v5`, which the operations after the loop make, of the loop's last state and the arguments they read. -/
def R_main_v5 (s : State F) (main_arg0 : (⟨S16x8192x3, .f32⟩ : BufTy).Contents (Elt F)) : (⟨S16x512x3, .f32⟩ : BufTy).Contents (Elt F) :=
  select (broadcastInDim S16x512x3 ![0, 1] bcast_S16x512_S16x512x3_0_1 (Host.reduce IntOp.andi (andi (cmpi .sge (select (cmpi .slt (broadcastInDim S16x512x1 ![0, 1] bcast_S16x512_S16x512x1_0_1 (s.main_v3_3)) (broadcastInDim S16x512x1 ![] bcast_S_S16x512x1 (constantI S_ 32 0#32))) (addi (broadcastInDim S16x512x1 ![0, 1] bcast_S16x512_S16x512x1_0_1 (s.main_v3_3)) (broadcastInDim S16x512x1 ![] bcast_S_S16x512x1 (constantI S_ 32 8192#32))) (broadcastInDim S16x512x1 ![0, 1] bcast_S16x512_S16x512x1_0_1 (s.main_v3_3))) (broadcastInDim S16x512x1 ![] bcast_S_S16x512x1 (constantI S_ 32 0#32))) (cmpi .sle (select (cmpi .slt (broadcastInDim S16x512x1 ![0, 1] bcast_S16x512_S16x512x1_0_1 (s.main_v3_3)) (broadcastInDim S16x512x1 ![] bcast_S_S16x512x1 (constantI S_ 32 0#32))) (addi (broadcastInDim S16x512x1 ![0, 1] bcast_S16x512_S16x512x1_0_1 (s.main_v3_3)) (broadcastInDim S16x512x1 ![] bcast_S_S16x512x1 (constantI S_ 32 8192#32))) (broadcastInDim S16x512x1 ![0, 1] bcast_S16x512_S16x512x1_0_1 (s.main_v3_3))) (broadcastInDim S16x512x1 ![0, 1, 2] bcast_S1x1x1_S16x512x1_0_1_2 (broadcastInDim S1x1x1 ![2] bcast_S1_S1x1x1_2 (constantI S1 32 8191#32))))) (constantI S_ 1 1#1) reducesTo_S16x512x1_S16x512_d2 h_S_)) (Host.gather gather_S16x8192x3_S16x512x1_S16x512x3_2_1_0_0_1_2_113 (main_arg0) (select (cmpi .slt (broadcastInDim S16x512x1 ![0, 1] bcast_S16x512_S16x512x1_0_1 (s.main_v3_3)) (broadcastInDim S16x512x1 ![] bcast_S_S16x512x1 (constantI S_ 32 0#32))) (addi (broadcastInDim S16x512x1 ![0, 1] bcast_S16x512_S16x512x1_0_1 (s.main_v3_3)) (broadcastInDim S16x512x1 ![] bcast_S_S16x512x1 (constantI S_ 32 8192#32))) (broadcastInDim S16x512x1 ![0, 1] bcast_S16x512_S16x512x1_0_1 (s.main_v3_3)))) (broadcastInDim S16x512x3 ![] bcast_S_S16x512x3 (constant S_ .f32 0x7FC00000#32))

/-- `main_v7`, which the operations after the loop make, of the loop's last state and the arguments they read. -/
def R_main_v7 (s : State F) (main_arg1 : (⟨S16x8192x128, .f32⟩ : BufTy).Contents (Elt F)) : (⟨S16x512x128, .f32⟩ : BufTy).Contents (Elt F) :=
  select (broadcastInDim S16x512x128 ![0, 1] bcast_S16x512_S16x512x128_0_1 (Host.reduce IntOp.andi (andi (cmpi .sge (select (cmpi .slt (broadcastInDim S16x512x1 ![0, 1] bcast_S16x512_S16x512x1_0_1 (s.main_v3_3)) (broadcastInDim S16x512x1 ![] bcast_S_S16x512x1 (constantI S_ 32 0#32))) (addi (broadcastInDim S16x512x1 ![0, 1] bcast_S16x512_S16x512x1_0_1 (s.main_v3_3)) (broadcastInDim S16x512x1 ![] bcast_S_S16x512x1 (constantI S_ 32 8192#32))) (broadcastInDim S16x512x1 ![0, 1] bcast_S16x512_S16x512x1_0_1 (s.main_v3_3))) (broadcastInDim S16x512x1 ![] bcast_S_S16x512x1 (constantI S_ 32 0#32))) (cmpi .sle (select (cmpi .slt (broadcastInDim S16x512x1 ![0, 1] bcast_S16x512_S16x512x1_0_1 (s.main_v3_3)) (broadcastInDim S16x512x1 ![] bcast_S_S16x512x1 (constantI S_ 32 0#32))) (addi (broadcastInDim S16x512x1 ![0, 1] bcast_S16x512_S16x512x1_0_1 (s.main_v3_3)) (broadcastInDim S16x512x1 ![] bcast_S_S16x512x1 (constantI S_ 32 8192#32))) (broadcastInDim S16x512x1 ![0, 1] bcast_S16x512_S16x512x1_0_1 (s.main_v3_3))) (broadcastInDim S16x512x1 ![0, 1, 2] bcast_S1x1x1_S16x512x1_0_1_2 (broadcastInDim S1x1x1 ![2] bcast_S1_S1x1x1_2 (constantI S1 32 8191#32))))) (constantI S_ 1 1#1) reducesTo_S16x512x1_S16x512_d2 h_S_)) (Host.gather gather_S16x8192x128_S16x512x1_S16x512x128_2_1_0_0_1_2_11128 (main_arg1) (select (cmpi .slt (broadcastInDim S16x512x1 ![0, 1] bcast_S16x512_S16x512x1_0_1 (s.main_v3_3)) (broadcastInDim S16x512x1 ![] bcast_S_S16x512x1 (constantI S_ 32 0#32))) (addi (broadcastInDim S16x512x1 ![0, 1] bcast_S16x512_S16x512x1_0_1 (s.main_v3_3)) (broadcastInDim S16x512x1 ![] bcast_S_S16x512x1 (constantI S_ 32 8192#32))) (broadcastInDim S16x512x1 ![0, 1] bcast_S16x512_S16x512x1_0_1 (s.main_v3_3)))) (broadcastInDim S16x512x128 ![] bcast_S_S16x512x128 (constant S_ .f32 0x7FC00000#32))

end Cert.ReferenceIdeal.Step

end
-- ==== Proof.RefRead.lean ====
/-
  The reference read at an index: before trip `k` of its loop the carried arrays hold, for every cloud, the state `Cert.Fps.run` after `k` choices;
  so its two results are the coordinates and the features of the chosen points.
-/
module

public import proofs.«01_k».proof.Proof.RefStep
public import proofs.«01_k».proof.Proof.Fps
public import Idealize.ShloMosaic.Lib.Pointwise

@[expose] public section

set_option maxRecDepth 16384

noncomputable section

namespace Cert.RefRead

open Idealize.ShloMosaic Cert.ReferenceIdeal Cert.ReferenceIdeal.Gen Cert.ReferenceIdeal.Step

/-- Coordinate `c` of cloud `b` of an array of clouds. -/
def pts (xyz : S16x8192x3.Idx → EReal) (c : Fin 3) (b : Fin 16) : Fin 8192 → EReal := fun n => xyz (ix3 b n c)

/-- The sampling of cloud `b`. -/
def fps (xyz : S16x8192x3.Idx → EReal) (b : Fin 16) (k : ℕ) : (Fin 8192 → EReal) × Fin 8192 :=
  Fps.run (pts xyz 0 b) (pts xyz 1 b) (pts xyz 2 b) k

/-! ### Picking rows by index -/

/-- The dimension numbers of picking rows of a batched table of width `C` by index, `T` of each. -/
def takeDims {T C : ℕ} (wf : GatherDims.WF ⟨3, ![16, 8192, C]⟩ ⟨3, ![16, T, 1]⟩ ⟨3, ![16, T, C]⟩ [2] [1] [0] [1] [0] 2 ![1, 1, C]) :
    GatherDims ⟨3, ![16, 8192, C]⟩ ⟨3, ![16, T, 1]⟩ ⟨3, ![16, T, C]⟩ where
  offsetDims := [2]
  collapsedSliceDims := [1]
  operandBatchingDims := [0]
  startIndicesBatchingDims := [0]
  startIndexMap := [1]
  indexVectorDim := 2
  sliceSizes := ![1, 1, C]
  wf := wf

/-- Rows of a batched table picked by index along its middle axis, read at an index. -/
theorem take_axis1 {T C : ℕ} (wf : GatherDims.WF ⟨3, ![16, 8192, C]⟩ ⟨3, ![16, T, 1]⟩ ⟨3, ![16, T, C]⟩ [2] [1] [0] [1] [0] 2 ![1, 1, C])
    {α : Type} (x : (⟨3, ![16, 8192, C]⟩ : Shape).Idx → α) (idx : IVec ⟨3, ![16, T, 1]⟩ 32) (r : Fin 16) (t : Fin T) (c : Fin C) (l : Fin 8192)
    (hl : idx (ix3 r t 0) = BitVec.ofNat 32 (l : ℕ)) : Host.gather (takeDims wf) x idx (ix3 r t c) = x (ix3 r l c) := by
  unfold Host.gather
  congr 1
  funext a
  refine Fin.ext ?_
  show GatherDims.start (takeDims wf) _ _ _ + GatherDims.batchCoord (takeDims wf) _ _ + GatherDims.offCoord (takeDims wf) _ _ = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  · rw [GatherDims.batchCoord_eq_zero _ _ _ (fun h => by simp [takeDims] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims wf).startIndexMap from List.mem_singleton.mpr rfl)]
    have hs : (takeDims wf).siIdx (ix3 r t c) ⟨List.idxOf (1 : Fin 3) (takeDims wf).startIndexMap,
        List.idxOf_lt_length_iff.2 (List.mem_singleton.mpr rfl)⟩ = ix3 r t 0 := by
      funext b
      refine Fin.ext ?_
      match b with
      | ⟨0, _⟩ => rfl
      | ⟨1, _⟩ => rfl
      | ⟨2, _⟩ => rfl
    rw [hs, hl, Fps.toInt_idx]
    have := l.isLt
    show min ((l : ℕ) : ℤ).toNat (8192 - 1) = (l : ℕ)
    omega
  · rw [GatherDims.batchCoord_eq_zero _ _ _ (fun h => by simp [takeDims] at h)]
    unfold GatherDims.start
    rw [dif_neg (by simp [takeDims])]
    simp only [Nat.zero_add]
    rfl

theorem idx_slt (l : Fin 8192) : IntOp.cmpi .slt (BitVec.ofNat 32 (l : ℕ)) 0#32 = 0#1 := by
  have := l.isLt
  have h : ¬ (BitVec.ofNat 32 (l : ℕ)).toInt < (0#32).toInt := by rw [Fps.toInt_idx]; simp
  simp only [IntOp.cmpi, BitVec.slt_eq_decide, h]; rfl

theorem idx_sge (l : Fin 8192) : IntOp.cmpi .sge (BitVec.ofNat 32 (l : ℕ)) 0#32 = 1#1 := by
  have h : (0#32).toInt ≤ (BitVec.ofNat 32 (l : ℕ)).toInt := by rw [Fps.toInt_idx]; simp
  simp only [IntOp.cmpi, BitVec.sle_eq_decide, h]; rfl

theorem idx_sle (l : Fin 8192) : IntOp.cmpi .sle (BitVec.ofNat 32 (l : ℕ)) 8191#32 = 1#1 := by
  have := l.isLt
  have h : (BitVec.ofNat 32 (l : ℕ)).toInt ≤ (8191#32).toInt := by
    rw [Fps.toInt_idx, show (8191#32).toInt = 8191 from by decide]; omega
  simp only [IntOp.cmpi, BitVec.sle_eq_decide, h]; rfl

/-! ### The loop -/

/-- What the carried arrays hold before trip `k`. -/
structure At (xyz : S16x8192x3.Idx → EReal) (k : ℕ) (s : State Ideal) : Prop where
  cnt : s.main_v3_2 = fun _ => BitVec.ofNat 32 (k + 1)
  idx : ∀ (b : Fin 16) (j : Fin 512), s.main_v3_3 (ix2 b j) = if (j : ℕ) ≤ k then BitVec.ofNat 32 ((fps xyz b j).2 : ℕ) else 0#32
  last : ∀ b : Fin 16, s.main_v3_4 (ix2 b 0) = BitVec.ofNat 32 ((fps xyz b k).2 : ℕ)
  dist : ∀ (b : Fin 16) (n : Fin 8192), s.main_v3_5 (ix2 b n) = (fps xyz b k).1 n
  pts : s.main_v3_0 = xyz

theorem at_init (xyz : S16x8192x3.Idx → EReal) : At xyz 0 (init xyz) where
  cnt := by
    funext i
    rfl
  idx b j := by
    show K_main_v0 (F := Ideal) (ix2 b j) = _
    pointwise [K_main_v0, K_main_c]
    split
    · rename_i h
      rw [Nat.le_zero.mp h]; rfl
    · rfl
  last b := by
    show K_main_v1 (F := Ideal) (ix2 b 0) = _
    pointwise [K_main_v1, K_main_c_0]
    rfl
  dist b n := by
    show K_main_v2 (F := Ideal) (ix2 b n) = _
    pointwise [K_main_v2, K_main_cst]
    show _ = (⊤ : EReal)
    simp [Ideal.ofBits, Ideal.ieee]
  pts := rfl

section Trip

variable {xyz : S16x8192x3.Idx → EReal} {k : ℕ} {s : State Ideal}

/-- The comparison of the reference's arg-max. -/
theorem pick_eq : (reducer_argmax_f32_i32 : Ideal .f32 × BitVec 32 → Ideal .f32 × BitVec 32 → Ideal .f32 × BitVec 32) = Fps.pick := by
  funext a b
  unfold reducer_argmax_f32_i32 Fps.pick
  rcases a with ⟨a, i⟩
  rcases b with ⟨b, j⟩
  simp only [Ideal.cmpf_def, Ideal.cmp]
  by_cases h1 : b < a
  · simp [h1, h1.ne', IntOp.ori, IntOp.andi, IntOp.cmpi, Scalar.select]
  · by_cases h2 : a = b
    · subst h2
      by_cases h3 : i.toInt < j.toInt
      · simp [h3, IntOp.ori, IntOp.andi, IntOp.cmpi, Scalar.select, BitVec.slt_eq_decide]
      · simp [h3, IntOp.ori, IntOp.andi, IntOp.cmpi, Scalar.select, BitVec.slt_eq_decide]
    · simp [h1, h2, IntOp.ori, IntOp.andi, IntOp.cmpi, Scalar.select, BitVec.slt_eq_decide]

/-- The coordinates of the last chosen point. -/
theorem at_point (h : At xyz k s) (b : Fin 16) (c : Fin 3) : b24 k s (ix3 b 0 c) = xyz (ix3 b (fps xyz b k).2 c) := by
  have hg : b20 k s (ix3 b 0 c) = xyz (ix3 b (fps xyz b k).2 c) := by
    unfold b20
    rw [h.pts]
    refine take_axis1 (T := 1) (C := 3) _ _ _ b 0 c _ ?_
    pointwise [b9, b8, b7, b6, b5, b4, b3, b2]
    rw [h.last, idx_slt]
    rfl
  pointwise [b24, b23, b22, b21, b19, b18, b17, b16, b15, b14, b13, b12, b11, b10, b9, b8, b7, b6, b5, b4, b3, b2]
  simp only [h.last, idx_slt]
  rw [hg]
  simp only [show ∀ a b : BitVec 32, Scalar.select 0#1 a b = b from fun _ _ => rfl, idx_sge, idx_sle]
  rfl

theorem at_dist (h : At xyz k s) (b : Fin 16) (n : Fin 8192) : b30 k s (ix2 b n) = (fps xyz b (k + 1)).1 n := by
  pointwise [b30, b29, b27, b26, b25, b28]
  simp only [at_point h]
  rw [h.dist, h.pts, Fin.sum_univ_three]
  rfl

theorem at_last (h : At xyz k s) (b : Fin 16) : b40 k s (ix2 b 0) = BitVec.ofNat 32 ((fps xyz b (k + 1)).2 : ℕ) := by
  have hd : (fps xyz b (k + 1)).2 = Fps.last fun n => b30 k s (ix2 b n) := by
    show Fps.last _ = _
    congr 1
    funext n
    exact (at_dist h b n).symm
  rw [hd]
  pointwise [b40, b39, b38, b37, b36, b35, b34, b33, b32, b31]
  rw [Ideal.argReduce_eq_reduce2, Host.reduce2_eq_foldl_fiber, pick_eq]
  have hbot : constant (F := Ideal) S_ FTy.f32 4286578688#32 (Shape.Idx.first h_S_) = (⊥ : EReal) := by
    show Ideal.ofBits FTy.f32 4286578688#32 = ⊥
    simp [Ideal.ofBits, Ideal.ieee]
  rw [hbot]
  have hrev : ∀ l : Fin 8192, Host.reverse [1] (b30 k s) (ix2 b l) = b30 k s (ix2 b l.rev) := by
    intro l
    unfold Host.reverse
    refine congrArg (b30 k s) ?_
    funext a
    match a with
    | ⟨0, _⟩ => rfl
    | ⟨1, _⟩ => rfl
  refine Fps.foldl_pick_rev _ _ fun p => ?_
  unfold Host.argReduceFiber
  rw [List.mem_map]
  constructor
  · rintro ⟨n, hn, rfl⟩
    rw [List.mem_filter, decide_eq_true_eq] at hn
    obtain ⟨l, hl⟩ := (reducesTo_S16x8192_S16_d1.fiber_r2_a1 _ _).1 hn.2
    rw [← hl]
    exact ⟨l, Prod.ext (hrev l) rfl⟩
  · rintro ⟨n, rfl⟩
    refine ⟨S16x8192.rowMajor (ix2 b n), ?_, ?_⟩
    · rw [List.mem_filter, decide_eq_true_eq, Equiv.symm_apply_apply]
      exact ⟨List.mem_finRange _, (reducesTo_S16x8192_S16_d1.fiber_r2_a1 _ _).2 ⟨n, rfl⟩⟩
    · rw [Equiv.symm_apply_apply]
      exact Prod.ext (hrev n) rfl

theorem at_idx (h : At xyz k s) (hk : k < 511) (b : Fin 16) (j : Fin 512) :
    b48 k s (ix2 b j) = if (j : ℕ) ≤ k + 1 then BitVec.ofNat 32 ((fps xyz b j).2 : ℕ) else 0#32 := by
  have hb : (b46 k s (Shape.Idx.first h_S_)).toInt = ((k + 1 : ℕ) : ℤ) := by
    have hlt : k + 1 < 8192 := by omega
    pointwise [b46, b45, b44, b43, b42, b41]
    rw [h.cnt]
    rw [show BitVec.ofNat 32 (k + 1) = BitVec.ofNat 32 ((⟨k + 1, hlt⟩ : Fin 8192) : ℕ) from rfl, idx_slt]
    exact Fps.toInt_idx ⟨k + 1, hlt⟩
  have h0 : ∀ hc, Host.clampedStart S16x512 S16x1 hc (fun a => ((![(b47 k s), (b46 k s)] : Fin 2 → (⟨S_, .i32⟩ : BufTy).Contents (Elt Ideal)) a (Shape.Idx.first h_S_)).toInt) 0 = 0 := by
    intro hc
    exact Host.clampedStart_of_le hc _ _ 0 rfl (by show 0 + 16 ≤ 16; omega)
  have h1 : ∀ hc, Host.clampedStart S16x512 S16x1 hc (fun a => ((![(b47 k s), (b46 k s)] : Fin 2 → (⟨S_, .i32⟩ : BufTy).Contents (Elt Ideal)) a (Shape.Idx.first h_S_)).toInt) 1 = k + 1 := by
    intro hc
    exact Host.clampedStart_of_le hc _ _ (k + 1) hb (by show k + 1 + 1 ≤ 512; omega)
  pointwise [b48]
  simp only [h0, h1]
  split
  · rename_i hj
    have e : (j : ℕ) = k + 1 := by omega
    have e' : (fps xyz b j).2 = (fps xyz b (k + 1)).2 := by rw [e]
    rw [if_pos (le_of_eq e), e', ← at_last h]
    refine congrArg (b40 k s) ?_
    exact congrArg (ix2 b) (Fin.ext (by show (j : ℕ) - (k + 1) = 0; omega))
  · rename_i hj
    have e : (j : ℕ) ≠ k + 1 := by
      have := b.isLt
      omega
    rw [h.idx]
    have : (j : ℕ) ≤ k ↔ (j : ℕ) ≤ k + 1 := by omega
    simp only [this]

theorem at_step (h : At xyz k s) (hk : k < 511) : At xyz (k + 1) (step k s) where
  cnt := by
    rw [step_main_v3_2]
    unfold b1 b0
    rw [h.cnt]
    funext i
    show BitVec.ofNat 32 (k + 1) + 1#32 = BitVec.ofNat 32 (k + 1 + 1)
    simp only [BitVec.ofNat_add]
  idx b j := by rw [step_main_v3_3, at_idx h hk]
  last b := by rw [step_main_v3_4, at_last h]
  dist b n := by rw [step_main_v3_5, at_dist h]
  pts := h.pts

end Trip

/-- The states of the loop. -/
def iter (xyz : S16x8192x3.Idx → EReal) : ℕ → State Ideal
  | 0 => init xyz
  | k + 1 => step k (iter xyz k)

theorem at_iter (xyz : S16x8192x3.Idx → EReal) : ∀ k, k ≤ 511 → At xyz k (iter xyz k)
  | 0, _ => at_init xyz
  | k + 1, hk => at_step (at_iter xyz k (Nat.le_of_succ_le hk)) hk

/-! ### The results -/

/-- What the reference's index chain makes of an index in range: the index itself, found in range. -/
theorem in_range (l : Fin 8192) : Finset.fold IntOp.andi 1#1 (fun _ : Fin 1 => IntOp.andi
      (IntOp.cmpi .sge (Scalar.select (IntOp.cmpi .slt (BitVec.ofNat 32 (l : ℕ)) 0#32) (IntOp.addi (BitVec.ofNat 32 (l : ℕ)) 8192#32) (BitVec.ofNat 32 (l : ℕ))) 0#32)
      (IntOp.cmpi .sle (Scalar.select (IntOp.cmpi .slt (BitVec.ofNat 32 (l : ℕ)) 0#32) (IntOp.addi (BitVec.ofNat 32 (l : ℕ)) 8192#32) (BitVec.ofNat 32 (l : ℕ))) 8191#32))
      Finset.univ = 1#1 := by
  rw [idx_slt]
  simp only [show ∀ a b : BitVec 32, Scalar.select 0#1 a b = b from fun _ _ => rfl, idx_sge, idx_sle]
  rfl

theorem res_coords (xyz : S16x8192x3.Idx → EReal) (b : Fin 16) (j : Fin 512) (c : Fin 3) :
    R_main_v5 (iter xyz 511) xyz (ix3 b j c) = xyz (ix3 b (fps xyz b j).2 c) := by
  have hj : (iter xyz 511).main_v3_3 (ix2 b j) = BitVec.ofNat 32 ((fps xyz b j).2 : ℕ) := by
    rw [(at_iter xyz 511 le_rfl).idx, if_pos (by omega)]
  have hg := fun idx => take_axis1 (T := 512) (C := 3) gather_S16x8192x3_S16x512x1_S16x512x3_2_1_0_0_1_2_113_wf xyz idx b j c (fps xyz b j).2
  pointwise [R_main_v5]
  rw [hj, in_range]
  refine Eq.trans (hg _ ?_) rfl
  pointwise
  rw [hj, idx_slt]
  rfl

theorem res_feats (xyz : S16x8192x3.Idx → EReal) (feat : S16x8192x128.Idx → EReal) (b : Fin 16) (j : Fin 512) (c : Fin 128) :
    R_main_v7 (iter xyz 511) feat (ix3 b j c) = feat (ix3 b (fps xyz b j).2 c) := by
  have hj : (iter xyz 511).main_v3_3 (ix2 b j) = BitVec.ofNat 32 ((fps xyz b j).2 : ℕ) := by
    rw [(at_iter xyz 511 le_rfl).idx, if_pos (by omega)]
  have hg := fun idx => take_axis1 (T := 512) (C := 128) gather_S16x8192x128_S16x512x1_S16x512x128_2_1_0_0_1_2_11128_wf feat idx b j c (fps xyz b j).2
  pointwise [R_main_v7]
  rw [hj, in_range]
  refine Eq.trans (hg _ ?_) rfl
  pointwise
  rw [hj, idx_slt]
  rfl

end Cert.RefRead

end
-- ==== Proof.KernelValue.lean ====
/-
  The kernel's two results: what the launch leaves in its four output arrays, read through the host operations around it, are the coordinates and
  the features of the chosen points.
-/
module

public import proofs.«01_k».proof.Proof.KernelRun
public import proofs.«01_k».proof.Proof.RefRead
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelValue

open Idealize.ShloMosaic Idealize.ShloMosaic.TcCoe Idealize.SL.Sem Cert.KernelIdeal Cert.KernelIdeal.Gen
open Cert.RefRead (pts)

variable (m : (ℓ : Loc nD τ sig) → Buf (Elt Ideal) ℓ) (c : Dev nD)

/-- The clouds' coordinates, as launched. -/
def xyz : S16x8192x3.Idx → EReal := m ((c : Thread nD τ).loc main_arg0)

/-- The clouds' features, as launched. -/
def feat : S16x8192x128.Idx → EReal := m ((c : Thread nD τ).loc main_arg1)

theorem in0 : V m c main_call0_v1 = fun i => xyz m c (ix3 (i 0) (i 1) 0) := by
  funext i
  idx_vars i
  unfold V V0 xyz
  simp only [List.flatten_cons, List.flatten_nil, List.append_nil]
  after_results
  pointwise
  show extractStridedSlice S16x8192x1 ![0, 0, 0] (m (c, Proc.tc.devRef main_arg0) : S16x8192x3.Idx → EReal) slices_S16x8192x3_S16x8192x1_0_0_0 (ix3 i0 i1 0) = _
  pointwise

theorem in1 : V m c main_call0_v3 = fun i => xyz m c (ix3 (i 0) (i 1) 1) := by
  funext i
  idx_vars i
  unfold V V0 xyz
  simp only [List.flatten_cons, List.flatten_nil, List.append_nil]
  after_results
  pointwise
  show extractStridedSlice S16x8192x1 ![0, 0, 1] (m (c, Proc.tc.devRef main_arg0) : S16x8192x3.Idx → EReal) slices_S16x8192x3_S16x8192x1_0_0_1 (ix3 i0 i1 0) = _
  pointwise

theorem in2 : V m c main_call0_v5 = fun i => xyz m c (ix3 (i 0) (i 1) 2) := by
  funext i
  idx_vars i
  unfold V V0 xyz
  simp only [List.flatten_cons, List.flatten_nil, List.append_nil]
  after_results
  pointwise
  show extractStridedSlice S16x8192x1 ![0, 0, 2] (m (c, Proc.tc.devRef main_arg0) : S16x8192x3.Idx → EReal) slices_S16x8192x3_S16x8192x1_0_0_2 (ix3 i0 i1 0) = _
  pointwise

/-- Every window's block index at the one point. -/
theorem idx : ∀ t : Fin cfg0.N, win0_0.index t = ![0, 0] ∧ win0_1.index t = ![0, 0] ∧ win0_2.index t = ![0, 0] :=
  (by decide +kernel : ∀ t : Fin grid0.N, _)

theorem iblk0 : iblk m c 0 t0_0 = V m c main_call0_v1 := by
  blk_ext! [iblk, idx t0_0]

theorem iblk1 : iblk m c 1 t0_0 = V m c main_call0_v3 := by
  blk_ext! [iblk, idx t0_0]

theorem iblk2 : iblk m c 2 t0_0 = V m c main_call0_v5 := by
  blk_ext! [iblk, idx t0_0]

theorem final3 : (dats m 0 c).arrAt 3 cfg0.N = (outsAt0 m c t0_0).1 := by
  refine (dats m 0 c).arrAt_eq_of_after_last 3 t0_0 (by decide +kernel) _ fun j => ?_
  blk_simp
  rw [after0_3]

theorem final4 : (dats m 0 c).arrAt 4 cfg0.N = (outsAt0 m c t0_0).2.1 := by
  refine (dats m 0 c).arrAt_eq_of_after_last 4 t0_0 (by decide +kernel) _ fun j => ?_
  blk_simp
  rw [after0_4]

theorem final5 : (dats m 0 c).arrAt 5 cfg0.N = (outsAt0 m c t0_0).2.2.1 := by
  refine (dats m 0 c).arrAt_eq_of_after_last 5 t0_0 (by decide +kernel) _ fun j => ?_
  blk_simp
  rw [after0_5]

theorem final6 : (dats m 0 c).arrAt 6 cfg0.N = (outsAt0 m c t0_0).2.2.2 := by
  refine (dats m 0 c).arrAt_eq_of_after_last 6 t0_0 (by decide +kernel) _ fun j => ?_
  blk_simp
  rw [after0_6]

/-- The point chosen `j`-th of cloud `b`. -/
def sel (b : Fin 16) (j : ℕ) : Fin 8192 := (Cert.RefRead.fps (xyz m c) b j).2

theorem sel_eq (b : Fin 16) (j : ℕ) : (KernelPay.fps (V m c main_call0_v1) (V m c main_call0_v3) (V m c main_call0_v5) b j).2 = sel m c b j := by
  rw [in0, in1, in2]
  rfl

/-- What the launch leaves in its four outputs. -/
theorem outs (b : Fin 16) (j : Fin 512) :
    (outsAt0 m c t0_0).1 (ix2 b j) = BitVec.ofNat 32 (sel m c b j : ℕ)
    ∧ (outsAt0 m c t0_0).2.1 (ix2 b j) = xyz m c (ix3 b (sel m c b j) 0)
    ∧ (outsAt0 m c t0_0).2.2.1 (ix2 b j) = xyz m c (ix3 b (sel m c b j) 1)
    ∧ (outsAt0 m c t0_0).2.2.2 (ix2 b j) = xyz m c (ix3 b (sel m c b j) 2) := by
  unfold outsAt0
  dsimp only
  rw [iblk0, iblk1, iblk2]
  obtain ⟨acc, d, h⟩ := KernelRun.outs c (ms0_0 t0_0) (hs0_0 t0_0) (ms0_1 t0_0) (hs0_1 t0_0) (ms0_2 t0_0) (hs0_2 t0_0) (ms0_3 t0_0) (hs0_3 t0_0)
    (ms0_4 t0_0) (hs0_4 t0_0) (ms0_5 t0_0) (hs0_5 t0_0) (ms0_6 t0_0) (hs0_6 t0_0) scM0_0 (Memref.isWhole_whole _)
    (V m c main_call0_v1) (V m c main_call0_v3) (V m c main_call0_v5)
  have hj : (j : ℕ) ≤ 511 := by omega
  refine ⟨(h.ix b j).trans ?_, (h.lx b j).trans ?_, (h.ly b j).trans ?_, (h.lz b j).trans ?_⟩ <;> rw [if_pos hj, sel_eq]
  · rw [in0]; rfl
  · rw [in1]; rfl
  · rw [in2]; rfl

/-! ### The host operations after the launch -/

/-- The three coordinate planes side by side. -/
def COORDS (x y z : S16x512.Idx → EReal) : S16x512x3.Idx → EReal :=
  concatenate S16x512x3 2 [⟨S16x512x1, broadcastInDim S16x512x1 ![0, 1] bcast_S16x512_S16x512x1_0_1 x⟩,
    ⟨S16x512x1, broadcastInDim S16x512x1 ![0, 1] bcast_S16x512_S16x512x1_0_1 y⟩, ⟨S16x512x1, broadcastInDim S16x512x1 ![0, 1] bcast_S16x512_S16x512x1_0_1 z⟩]
    concatenates_S16x512x1_S16x512x1_S16x512x1_S16x512x3_d2

/-- The indices as the gather takes them: a negative one counted from the end. -/
def WRAP (ix : IVec S16x512 32) : IVec S16x512x1 32 :=
  select (cmpi .slt (broadcastInDim S16x512x1 ![0, 1] bcast_S16x512_S16x512x1_0_1 ix) (broadcastInDim S16x512x1 ![] bcast_S_S16x512x1 (constantI S_ 32 0#32)))
    (addi (broadcastInDim S16x512x1 ![0, 1] bcast_S16x512_S16x512x1_0_1 ix) (broadcastInDim S16x512x1 ![] bcast_S_S16x512x1 (constantI S_ 32 8192#32)))
    (broadcastInDim S16x512x1 ![0, 1] bcast_S16x512_S16x512x1_0_1 ix)

/-- Whether each index is in range. -/
def RANGE (ix : IVec S16x512 32) : IVec S16x512 1 :=
  Host.reduce IntOp.andi (andi (cmpi .sge (WRAP ix) (broadcastInDim S16x512x1 ![] bcast_S_S16x512x1 (constantI S_ 32 0#32)))
    (cmpi .sle (WRAP ix) (broadcastInDim S16x512x1 ![0, 1, 2] bcast_S1x1x1_S16x512x1_0_1_2 (broadcastInDim S1x1x1 ![2] bcast_S1_S1x1x1_2 (constantI S1 32 8191#32)))))
    (constantI S_ 1 1#1) reducesTo_S16x512x1_S16x512_d2 h_S_

/-- The rows of the features picked by index. -/
def FEATS (x : S16x8192x128.Idx → EReal) (ix : IVec S16x512 32) : S16x512x128.Idx → EReal :=
  select (broadcastInDim S16x512x128 ![0, 1] bcast_S16x512_S16x512x128_0_1 (RANGE ix))
    (Host.gather gather_S16x8192x128_S16x512x1_S16x512x128_2_1_0_0_1_2_11128 x (WRAP ix))
    (broadcastInDim S16x512x128 ![] bcast_S_S16x512x128 (constant (F := Ideal) S_ .f32 0x7FC00000#32))

theorem coords_of (W : Valuation τ sig (Elt Ideal)) : StableHlo.after hostOps1 W (Proc.devRef .tc main_v0_0)
    = COORDS (W (Proc.devRef .tc main_call0_v6_1)) (W (Proc.devRef .tc main_call0_v6_2)) (W (Proc.devRef .tc main_call0_v6_3)) := by
  after_results
  rfl

theorem feats_of (W : Valuation τ sig (Elt Ideal)) : StableHlo.after hostOps1 W (Proc.devRef .tc main_v0_1)
    = FEATS (W (Proc.devRef .tc main_arg1)) (W (Proc.devRef .tc main_call0_v6_0)) := by
  after_results
  rfl

theorem feats_at (x : S16x8192x128.Idx → EReal) (ix : IVec S16x512 32) (b : Fin 16) (j : Fin 512) (k : Fin 128) (l : Fin 8192)
    (hj : ix (ix2 b j) = BitVec.ofNat 32 (l : ℕ)) : FEATS x ix (ix3 b j k) = x (ix3 b l k) := by
  have hg := fun idx => Cert.RefRead.take_axis1 (T := 512) (C := 128) gather_S16x8192x128_S16x512x1_S16x512x128_2_1_0_0_1_2_11128_wf x idx b j k l
  pointwise [FEATS, RANGE, WRAP]
  rw [hj, Cert.RefRead.in_range]
  refine Eq.trans (hg _ ?_) rfl
  pointwise [WRAP]
  rw [hj, Cert.RefRead.idx_slt]
  rfl

theorem coords_at (x y z : S16x512.Idx → EReal) (b : Fin 16) (j : Fin 512) (k : Fin 3) :
    COORDS x y z (ix3 b j k) = if (k : ℕ) = 0 then x (ix2 b j) else if (k : ℕ) = 1 then y (ix2 b j) else z (ix2 b j) := by
  pointwise [COORDS]
  split_ifs <;> first | rfl | omega

/-- What the host operations after the launch read. -/
abbrev W : Valuation τ sig (Elt Ideal) := Pipeline.withArrays spec0 c (V0 m c) fun w => (dats m 0 c).arrAt w (cfgs 0).N

theorem arr_inj : Function.Injective (Pipeline.arrRef spec0) := by decide

theorem W3 : W m c (Proc.devRef .tc main_call0_v6_0) = (outsAt0 m c t0_0).1 :=
  (Pipeline.withArrays_arr spec0 arr_inj c (V0 m c) (fun w => (dats m 0 c).arrAt w (cfgs 0).N) 3).trans (final3 m c)

theorem W4 : W m c (Proc.devRef .tc main_call0_v6_1) = (outsAt0 m c t0_0).2.1 :=
  (Pipeline.withArrays_arr spec0 arr_inj c (V0 m c) (fun w => (dats m 0 c).arrAt w (cfgs 0).N) 4).trans (final4 m c)

theorem W5 : W m c (Proc.devRef .tc main_call0_v6_2) = (outsAt0 m c t0_0).2.2.1 :=
  (Pipeline.withArrays_arr spec0 arr_inj c (V0 m c) (fun w => (dats m 0 c).arrAt w (cfgs 0).N) 5).trans (final5 m c)

theorem W6 : W m c (Proc.devRef .tc main_call0_v6_3) = (outsAt0 m c t0_0).2.2.2 :=
  (Pipeline.withArrays_arr spec0 arr_inj c (V0 m c) (fun w => (dats m 0 c).arrAt w (cfgs 0).N) 6).trans (final6 m c)

theorem Wfeat : W m c (Proc.devRef .tc main_arg1) = feat m c :=
  (Pipeline.withArrays_of_ne spec0 c (V0 m c) _ main_arg1 (by exact (by decide : ∀ w, Pipeline.arrRef spec0 w ≠ main_arg1))).trans (V_main_arg1 m c)

/-- The first result: the chosen points' coordinates. -/
theorem coords : Pipeline.afterTail₀ cfgs (dats m) 0 (V0 m) [hostOps1] c main_v0_0 = fun i => xyz m c (ix3 (i 0) (sel m c (i 0) (i 1 : Fin 512)) (i 2)) := by
  refine (coords_of (W m c)).trans ?_
  rw [W4, W5, W6]
  funext i
  idx_vars i
  refine (coords_at _ _ _ i0 i1 i2).trans ?_
  obtain ⟨-, h0, h1, h2⟩ := outs m c i0 i1
  rw [h0, h1, h2]
  fin_cases i2 <;> rfl

/-- The second result: the chosen points' features. -/
theorem feats : Pipeline.afterTail₀ cfgs (dats m) 0 (V0 m) [hostOps1] c main_v0_1 = fun i => feat m c (ix3 (i 0) (sel m c (i 0) (i 1 : Fin 512)) (i 2)) := by
  refine (feats_of (W m c)).trans ?_
  rw [W3, Wfeat]
  funext i
  idx_vars i
  exact feats_at _ _ i0 i1 i2 _ (outs m c i0 i1).1

/-- The run: both results, and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = (fun i => xyz m c (ix3 (i 0) (sel m c (i 0) (i 1 : Fin 512)) (i 2)))
      ∧ r.2.mem ((c.tc : Thread nD τ).loc main_v0_1) = (fun i => feat m c (ix3 (i 0) (sel m c (i 0) (i 1 : Fin 512)) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v0_0 (by decide)).trans (coords m c), ((h.1 c).2 main_v0_1 (by decide)).trans (feats m c), h.2 c⟩)
    (θ_run_and (run_main m ρ) (unchanged m ρ))

end Cert.KernelValue

end
-- ==== Proof.RefRun.lean ====
/- The run of the reference program: @main is one stretch of host operations, one counted loop of 511 trips and four stretches after it. The run
   ends with every buffer at a fold of those operations over the launch's memory; one trip's values from any contents, the step, and the results
   (`Cert.ReferenceIdeal.Value.run`) as the step iterated on the loop's entry. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 14 host operations of @main, in order. -/
abbrev hostOps0 : List (HloOp τ sig (Elt F)) :=
  [ StableHlo.nullary main_c (constantI S_ 32 0#32),
    StableHlo.unary main_c main_v0 (broadcastInDim S16x512 ![] bcast_S_S16x512 : (⟨S_, .i32⟩ : BufTy).Contents (Elt F) → (⟨S16x512, .i32⟩ : BufTy).Contents (Elt F)),
    StableHlo.nullary main_c_0 (constantI S_ 32 0#32),
    StableHlo.unary main_c_0 main_v1 (broadcastInDim S16x1 ![] bcast_S_S16x1 : (⟨S_, .i32⟩ : BufTy).Contents (Elt F) → (⟨S16x1, .i32⟩ : BufTy).Contents (Elt F)),
    StableHlo.nullary main_cst (constant S_ .f32 0x7F800000#32),
    StableHlo.unary main_cst main_v2 (broadcastInDim S16x8192 ![] bcast_S_S16x8192 : (⟨S_, .f32⟩ : BufTy).Contents (Elt F) → (⟨S16x8192, .f32⟩ : BufTy).Contents (Elt F)),
    StableHlo.nullary main_c_1 (constantI S_ 32 1#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v1 main_v3_4 id,
    StableHlo.unary main_v2 main_v3_5 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev hostOps0_1 : List (HloOp τ sig (Elt F)) :=
  [ StableHlo.unary main_v3_3 main_v4 (broadcastInDim S16x512x1 ![0, 1] bcast_S16x512_S16x512x1_0_1 : (⟨S16x512, .i32⟩ : BufTy).Contents (Elt F) → (⟨S16x512x1, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  StableHlo.unary_bufs_sub ..
/-- 22 host operations of @take_along_axis_0 (main_call3), in order. -/
abbrev hostOps0_2 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16x512x1, .i32⟩) (broadcastInDim S16x512x1 ![] bcast_S_S16x512x1),
    StableHlo.TRef.binary (.of main_v4 : StableHlo.TRef sig ⟨S16x512x1, .i32⟩) (.of main_call3_v0 : StableHlo.TRef sig ⟨S16x512x1, .i32⟩) (.of main_call3_v1 : StableHlo.TRef sig ⟨S16x512x1, .i1⟩) (cmpi .slt),
    StableHlo.TRef.nullary (.of main_call3_c_0 : StableHlo.TRef sig ⟨S_, .i32⟩) (constantI S_ 32 8192#32),
    StableHlo.TRef.unary (.of main_call3_c_0 : StableHlo.TRef sig ⟨S_, .i32⟩) (.of main_call3_v2 : StableHlo.TRef sig ⟨S16x512x1, .i32⟩) (broadcastInDim S16x512x1 ![] bcast_S_S16x512x1),
    StableHlo.TRef.binary (.of main_v4 : StableHlo.TRef sig ⟨S16x512x1, .i32⟩) (.of main_call3_v2 : StableHlo.TRef sig ⟨S16x512x1, .i32⟩) (.of main_call3_v3 : StableHlo.TRef sig ⟨S16x512x1, .i32⟩) addi,
    StableHlo.TRef.ternary (.of main_call3_v1 : StableHlo.TRef sig ⟨S16x512x1, .i1⟩) (.of main_call3_v3 : StableHlo.TRef sig ⟨S16x512x1, .i32⟩) (.of main_v4 : StableHlo.TRef sig ⟨S16x512x1, .i32⟩) (.of main_call3_v4 : StableHlo.TRef sig ⟨S16x512x1, .i32⟩) select,
    StableHlo.TRef.nullary (.of main_call3_c_1 : StableHlo.TRef sig ⟨S1, .i32⟩) (constantI S1 32 8191#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S16x512x1, .i32⟩) (broadcastInDim S16x512x1 ![] bcast_S_S16x512x1),
    StableHlo.TRef.binary (.of main_call3_v4 : StableHlo.TRef sig ⟨S16x512x1, .i32⟩) (.of main_call3_v5 : StableHlo.TRef sig ⟨S16x512x1, .i32⟩) (.of main_call3_v6 : StableHlo.TRef sig ⟨S16x512x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S16x512x1, .i32⟩) (broadcastInDim S16x512x1 ![0, 1, 2] bcast_S1x1x1_S16x512x1_0_1_2),
    StableHlo.TRef.binary (.of main_call3_v4 : StableHlo.TRef sig ⟨S16x512x1, .i32⟩) (.of main_call3_v8 : StableHlo.TRef sig ⟨S16x512x1, .i32⟩) (.of main_call3_v9 : StableHlo.TRef sig ⟨S16x512x1, .i1⟩) (cmpi .sle),
    StableHlo.TRef.binary (.of main_call3_v6 : StableHlo.TRef sig ⟨S16x512x1, .i1⟩) (.of main_call3_v9 : StableHlo.TRef sig ⟨S16x512x1, .i1⟩) (.of main_call3_v10 : StableHlo.TRef sig ⟨S16x512x1, .i1⟩) andi,
    StableHlo.TRef.nullary (.of main_call3_c_3 : StableHlo.TRef sig ⟨S_, .i1⟩) (constantI S_ 1 1#1),
    StableHlo.TRef.binary (.of main_call3_v10 : StableHlo.TRef sig ⟨S16x512x1, .i1⟩) (.of main_call3_c_3 : StableHlo.TRef sig ⟨S_, .i1⟩) (.of main_call3_v11 : StableHlo.TRef sig ⟨S16x512, .i1⟩) (fun x v => Host.reduce IntOp.andi x v reducesTo_S16x512x1_S16x512_d2 h_S_),
    StableHlo.TRef.binary (.of main_arg0 : StableHlo.TRef sig ⟨S16x8192x3, .f32⟩) (.of main_call3_v4 : StableHlo.TRef sig ⟨S16x512x1, .i32⟩) (.of main_call3_v12 : StableHlo.TRef sig ⟨S16x512x3, .f32⟩) (fun x i => Host.gather gather_S16x8192x3_S16x512x1_S16x512x3_2_1_0_0_1_2_113 x i),
    StableHlo.TRef.unary (.of main_call3_v11 : StableHlo.TRef sig ⟨S16x512, .i1⟩) (.of main_call3_v13 : StableHlo.TRef sig ⟨S16x512x3, .i1⟩) (broadcastInDim S16x512x3 ![0, 1] bcast_S16x512_S16x512x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S16x512x3, .f32⟩) (broadcastInDim S16x512x3 ![] bcast_S_S16x512x3),
    StableHlo.TRef.ternary (.of main_call3_v13 : StableHlo.TRef sig ⟨S16x512x3, .i1⟩) (.of main_call3_v12 : StableHlo.TRef sig ⟨S16x512x3, .f32⟩) (.of main_call3_v14 : StableHlo.TRef sig ⟨S16x512x3, .f32⟩) (.of main_v5 : StableHlo.TRef sig ⟨S16x512x3, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 1 host operation of @main, in order. -/
abbrev hostOps0_3 : List (HloOp τ sig (Elt F)) :=
  [ StableHlo.unary main_v3_3 main_v6 (broadcastInDim S16x512x1 ![0, 1] bcast_S16x512_S16x512x1_0_1 : (⟨S16x512, .i32⟩ : BufTy).Contents (Elt F) → (⟨S16x512x1, .i32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  StableHlo.unary_bufs_sub ..
/-- 22 host operations of @take_along_axis_1 (main_call4), in order. -/
abbrev hostOps0_4 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S16x512x1, .i32⟩) (broadcastInDim S16x512x1 ![] bcast_S_S16x512x1),
    StableHlo.TRef.binary (.of main_v6 : StableHlo.TRef sig ⟨S16x512x1, .i32⟩) (.of main_call4_v0 : StableHlo.TRef sig ⟨S16x512x1, .i32⟩) (.of main_call4_v1 : StableHlo.TRef sig ⟨S16x512x1, .i1⟩) (cmpi .slt),
    StableHlo.TRef.nullary (.of main_call4_c_0 : StableHlo.TRef sig ⟨S_, .i32⟩) (constantI S_ 32 8192#32),
    StableHlo.TRef.unary (.of main_call4_c_0 : StableHlo.TRef sig ⟨S_, .i32⟩) (.of main_call4_v2 : StableHlo.TRef sig ⟨S16x512x1, .i32⟩) (broadcastInDim S16x512x1 ![] bcast_S_S16x512x1),
    StableHlo.TRef.binary (.of main_v6 : StableHlo.TRef sig ⟨S16x512x1, .i32⟩) (.of main_call4_v2 : StableHlo.TRef sig ⟨S16x512x1, .i32⟩) (.of main_call4_v3 : StableHlo.TRef sig ⟨S16x512x1, .i32⟩) addi,
    StableHlo.TRef.ternary (.of main_call4_v1 : StableHlo.TRef sig ⟨S16x512x1, .i1⟩) (.of main_call4_v3 : StableHlo.TRef sig ⟨S16x512x1, .i32⟩) (.of main_v6 : StableHlo.TRef sig ⟨S16x512x1, .i32⟩) (.of main_call4_v4 : StableHlo.TRef sig ⟨S16x512x1, .i32⟩) select,
    StableHlo.TRef.nullary (.of main_call4_c_1 : StableHlo.TRef sig ⟨S1, .i32⟩) (constantI S1 32 8191#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v5 : StableHlo.TRef sig ⟨S16x512x1, .i32⟩) (broadcastInDim S16x512x1 ![] bcast_S_S16x512x1),
    StableHlo.TRef.binary (.of main_call4_v4 : StableHlo.TRef sig ⟨S16x512x1, .i32⟩) (.of main_call4_v5 : StableHlo.TRef sig ⟨S16x512x1, .i32⟩) (.of main_call4_v6 : StableHlo.TRef sig ⟨S16x512x1, .i1⟩) (cmpi .sge),
    StableHlo.TRef.unary (.of main_call4_c_1 : StableHlo.TRef sig ⟨S1, .i32⟩) (.of main_call4_v7 : StableHlo.TRef sig ⟨S1x1x1, .i32⟩) (broadcastInDim S1x1x1 ![2] bcast_S1_S1x1x1_2),
    StableHlo.TRef.unary (.of main_call4_v7 : StableHlo.TRef sig ⟨S1x1x1, .i32⟩) (.of main_call4_v8 : StableHlo.TRef sig ⟨S16x512x1, .i32⟩) (broadcastInDim S16x512x1 ![0, 1, 2] bcast_S1x1x1_S16x512x1_0_1_2),
    StableHlo.TRef.binary (.of main_call4_v4 : StableHlo.TRef sig ⟨S16x512x1, .i32⟩) (.of main_call4_v8 : StableHlo.TRef sig ⟨S16x512x1, .i32⟩) (.of main_call4_v9 : StableHlo.TRef sig ⟨S16x512x1, .i1⟩) (cmpi .sle),
    StableHlo.TRef.binary (.of main_call4_v6 : StableHlo.TRef sig ⟨S16x512x1, .i1⟩) (.of main_call4_v9 : StableHlo.TRef sig ⟨S16x512x1, .i1⟩) (.of main_call4_v10 : StableHlo.TRef sig ⟨S16x512x1, .i1⟩) andi,
    StableHlo.TRef.nullary (.of main_call4_c_3 : StableHlo.TRef sig ⟨S_, .i1⟩) (constantI S_ 1 1#1),
    StableHlo.TRef.binary (.of main_call4_v10 : StableHlo.TRef sig ⟨S16x512x1, .i1⟩) (.of main_call4_c_3 : StableHlo.TRef sig ⟨S_, .i1⟩) (.of main_call4_v11 : StableHlo.TRef sig ⟨S16x512, .i1⟩) (fun x v => Host.reduce IntOp.andi x v reducesTo_S16x512x1_S16x512_d2 h_S_),
    StableHlo.TRef.binary (.of main_arg1 : StableHlo.TRef sig ⟨S16x8192x128, .f32⟩) (.of main_call4_v4 : StableHlo.TRef sig ⟨S16x512x1, .i32⟩) (.of main_call4_v12 : StableHlo.TRef sig ⟨S16x512x128, .f32⟩) (fun x i => Host.gather gather_S16x8192x128_S16x512x1_S16x512x128_2_1_0_0_1_2_11128 x i),
    StableHlo.TRef.unary (.of main_call4_v11 : StableHlo.TRef sig ⟨S16x512, .i1⟩) (.of main_call4_v13 : StableHlo.TRef sig ⟨S16x512x128, .i1⟩) (broadcastInDim S16x512x128 ![0, 1] bcast_S16x512_S16x512x128_0_1),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S16x512x128, .f32⟩) (broadcastInDim S16x512x128 ![] bcast_S_S16x512x128),
    StableHlo.TRef.ternary (.of main_call4_v13 : StableHlo.TRef sig ⟨S16x512x128, .i1⟩) (.of main_call4_v12 : StableHlo.TRef sig ⟨S16x512x128, .f32⟩) (.of main_call4_v14 : StableHlo.TRef sig ⟨S16x512x128, .f32⟩) (.of main_v7 : StableHlo.TRef sig ⟨S16x512x128, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons]
  chain_rfl

-- no `main_segs` (the loop-free kit's `Seg.run` equation) for this @main: it has a host loop; a certificate takes `main_chain` (Lib/Pipeline/RegionsLoop.lean)

/-- 3 host operations of host loop 0's body region, in order. -/
abbrev while0Ops0 : List (HloOp τ sig (Elt F)) :=
  [ StableHlo.nullary main_while0b_c_8 (constantI S_ 32 1#32),
    StableHlo.binary main_v3_2 main_while0b_c_8 main_while0b_v8 (addi : (⟨S_, .i32⟩ : BufTy).Contents (Elt F) → (⟨S_, .i32⟩ : BufTy).Contents (Elt F) → (⟨S_, .i32⟩ : BufTy).Contents (Elt F)),
    StableHlo.unary main_v3_4 main_while0b_v9 (broadcastInDim S16x1x1 ![0, 1] bcast_S16x1_S16x1x1_0_1 : (⟨S16x1, .i32⟩ : BufTy).Contents (Elt F) → (⟨S16x1x1, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.unary_bufs_sub ..⟩
/-- 22 host operations of @take_along_axis (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x1, .i32⟩) (broadcastInDim S16x1x1 ![] bcast_S_S16x1x1),
    StableHlo.TRef.binary (.of main_while0b_v9 : StableHlo.TRef sig ⟨S16x1x1, .i32⟩) (.of main_while0b_call0_v0 : StableHlo.TRef sig ⟨S16x1x1, .i32⟩) (.of main_while0b_call0_v1 : StableHlo.TRef sig ⟨S16x1x1, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S16x1x1, .i32⟩) (broadcastInDim S16x1x1 ![] bcast_S_S16x1x1),
    StableHlo.TRef.binary (.of main_while0b_v9 : StableHlo.TRef sig ⟨S16x1x1, .i32⟩) (.of main_while0b_call0_v2 : StableHlo.TRef sig ⟨S16x1x1, .i32⟩) (.of main_while0b_call0_v3 : StableHlo.TRef sig ⟨S16x1x1, .i32⟩) addi,
    StableHlo.TRef.ternary (.of main_while0b_call0_v1 : StableHlo.TRef sig ⟨S16x1x1, .i1⟩) (.of main_while0b_call0_v3 : StableHlo.TRef sig ⟨S16x1x1, .i32⟩) (.of main_while0b_v9 : StableHlo.TRef sig ⟨S16x1x1, .i32⟩) (.of main_while0b_call0_v4 : StableHlo.TRef sig ⟨S16x1x1, .i32⟩) select,
    StableHlo.TRef.nullary (.of main_while0b_call0_c_1 : StableHlo.TRef sig ⟨S1, .i32⟩) (constantI S1 32 8191#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S16x1x1, .i32⟩) (broadcastInDim S16x1x1 ![] bcast_S_S16x1x1),
    StableHlo.TRef.binary (.of main_while0b_call0_v4 : StableHlo.TRef sig ⟨S16x1x1, .i32⟩) (.of main_while0b_call0_v5 : StableHlo.TRef sig ⟨S16x1x1, .i32⟩) (.of main_while0b_call0_v6 : StableHlo.TRef sig ⟨S16x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S16x1x1, .i32⟩) (broadcastInDim S16x1x1 ![0, 1, 2] bcast_S1x1x1_S16x1x1_0_1_2),
    StableHlo.TRef.binary (.of main_while0b_call0_v4 : StableHlo.TRef sig ⟨S16x1x1, .i32⟩) (.of main_while0b_call0_v8 : StableHlo.TRef sig ⟨S16x1x1, .i32⟩) (.of main_while0b_call0_v9 : StableHlo.TRef sig ⟨S16x1x1, .i1⟩) (cmpi .sle),
    StableHlo.TRef.binary (.of main_while0b_call0_v6 : StableHlo.TRef sig ⟨S16x1x1, .i1⟩) (.of main_while0b_call0_v9 : StableHlo.TRef sig ⟨S16x1x1, .i1⟩) (.of main_while0b_call0_v10 : StableHlo.TRef sig ⟨S16x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S16x1x1, .i1⟩) (.of main_while0b_call0_c_3 : StableHlo.TRef sig ⟨S_, .i1⟩) (.of main_while0b_call0_v11 : StableHlo.TRef sig ⟨S16x1, .i1⟩) (fun x v => Host.reduce IntOp.andi x v reducesTo_S16x1x1_S16x1_d2 h_S_),
    StableHlo.TRef.binary (.of main_v3_0 : StableHlo.TRef sig ⟨S16x8192x3, .f32⟩) (.of main_while0b_call0_v4 : StableHlo.TRef sig ⟨S16x1x1, .i32⟩) (.of main_while0b_call0_v12 : StableHlo.TRef sig ⟨S16x1x3, .f32⟩) (fun x i => Host.gather gather_S16x8192x3_S16x1x1_S16x1x3_2_1_0_0_1_2_113 x i),
    StableHlo.TRef.unary (.of main_while0b_call0_v11 : StableHlo.TRef sig ⟨S16x1, .i1⟩) (.of main_while0b_call0_v13 : StableHlo.TRef sig ⟨S16x1x3, .i1⟩) (broadcastInDim S16x1x3 ![0, 1] bcast_S16x1_S16x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S16x1x3, .f32⟩) (broadcastInDim S16x1x3 ![] bcast_S_S16x1x3),
    StableHlo.TRef.ternary (.of main_while0b_call0_v13 : StableHlo.TRef sig ⟨S16x1x3, .i1⟩) (.of main_while0b_call0_v12 : StableHlo.TRef sig ⟨S16x1x3, .f32⟩) (.of main_while0b_call0_v14 : StableHlo.TRef sig ⟨S16x1x3, .f32⟩) (.of main_while0b_v10 : StableHlo.TRef sig ⟨S16x1x3, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 6 host operations of host loop 0's body region, in order. -/
abbrev while0Ops0_2 : List (HloOp τ sig (Elt F)) :=
  [ StableHlo.unary main_while0b_v10 main_while0b_v11 (broadcastInDim S16x8192x3 ![0, 1, 2] bcast_S16x1x3_S16x8192x3_0_1_2 : (⟨S16x1x3, .f32⟩ : BufTy).Contents (Elt F) → (⟨S16x8192x3, .f32⟩ : BufTy).Contents (Elt F)),
    StableHlo.binary main_v3_0 main_while0b_v11 main_while0b_v12 (subf : (⟨S16x8192x3, .f32⟩ : BufTy).Contents (Elt F) → (⟨S16x8192x3, .f32⟩ : BufTy).Contents (Elt F) → (⟨S16x8192x3, .f32⟩ : BufTy).Contents (Elt F)),
    StableHlo.binary main_while0b_v12 main_while0b_v12 main_while0b_v13 (mulf : (⟨S16x8192x3, .f32⟩ : BufTy).Contents (Elt F) → (⟨S16x8192x3, .f32⟩ : BufTy).Contents (Elt F) → (⟨S16x8192x3, .f32⟩ : BufTy).Contents (Elt F)),
    StableHlo.nullary main_while0b_cst_9 (constant S_ .f32 0x00000000#32),
    StableHlo.binary main_while0b_v13 main_while0b_cst_9 main_while0b_v14 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    StableHlo.binary main_v3_5 main_while0b_v14 main_while0b_v15 (minimumf : (⟨S16x8192, .f32⟩ : BufTy).Contents (Elt F) → (⟨S16x8192, .f32⟩ : BufTy).Contents (Elt F) → (⟨S16x8192, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- 1 host operation of @_flip (main_while0b_call1), in order. -/
abbrev while0Ops0_3 : List (HloOp τ sig (Elt F)) :=
  [ StableHlo.TRef.unary (.of main_while0b_v15 : StableHlo.TRef sig ⟨S16x8192, .f32⟩) (.of main_while0b_v16 : StableHlo.TRef sig ⟨S16x8192, .f32⟩) (Host.reverse [1]) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  StableHlo.unary_bufs_sub ..
/-- 5 host operations of @argmax (main_while0b_call2), in order. -/
abbrev while0Ops0_4 : List (HloOp τ sig (Elt F)) :=
  [ StableHlo.TRef.nullary (.of main_while0b_call2_v0 : StableHlo.TRef sig ⟨S16x8192, .i32⟩) (iotaInDim S16x8192 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v16 : StableHlo.TRef sig ⟨S16x8192, .f32⟩) (.of main_while0b_call2_v0 : StableHlo.TRef sig ⟨S16x8192, .i32⟩) (.of main_while0b_call2_cst : StableHlo.TRef sig ⟨S_, .f32⟩) (.of main_while0b_call2_c : StableHlo.TRef sig ⟨S_, .i32⟩) (.of main_while0b_call2_v1_0 : StableHlo.TRef sig ⟨S16, .f32⟩) (fun x y u v jj => (Host.argReduce reducer_argmax_f32_i32 x y u v reducesTo_S16x8192_S16_d1 h_S_ jj).1),
    StableHlo.TRef.quaternary (.of main_while0b_v16 : StableHlo.TRef sig ⟨S16x8192, .f32⟩) (.of main_while0b_call2_v0 : StableHlo.TRef sig ⟨S16x8192, .i32⟩) (.of main_while0b_call2_cst : StableHlo.TRef sig ⟨S_, .f32⟩) (.of main_while0b_call2_c : StableHlo.TRef sig ⟨S_, .i32⟩) (.of main_while0b_v17 : StableHlo.TRef sig ⟨S16, .i32⟩) (fun x y u v jj => (Host.argReduce reducer_argmax_f32_i32 x y u v reducesTo_S16x8192_S16_d1 h_S_ jj).2) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 19 host operations of host loop 0's body region, in order. -/
abbrev while0Ops0_5 : List (HloOp τ sig (Elt F)) :=
  [ StableHlo.unary main_while0b_v17 main_while0b_v18 (broadcastInDim S16x1 ![0] bcast_S16_S16x1_0 : (⟨S16, .i32⟩ : BufTy).Contents (Elt F) → (⟨S16x1, .i32⟩ : BufTy).Contents (Elt F)),
    StableHlo.nullary main_while0b_c_10 (constantI S_ 32 8191#32),
    StableHlo.unary main_while0b_c_10 main_while0b_v19 (broadcastInDim S16x1 ![] bcast_S_S16x1 : (⟨S_, .i32⟩ : BufTy).Contents (Elt F) → (⟨S16x1, .i32⟩ : BufTy).Contents (Elt F)),
    StableHlo.binary main_while0b_v19 main_while0b_v18 main_while0b_v20 (subi : (⟨S16x1, .i32⟩ : BufTy).Contents (Elt F) → (⟨S16x1, .i32⟩ : BufTy).Contents (Elt F) → (⟨S16x1, .i32⟩ : BufTy).Contents (Elt F)),
    StableHlo.nullary main_while0b_c_11 (constantI S_ 32 0#32),
    StableHlo.binary main_v3_2 main_while0b_c_11 main_while0b_v21 (cmpi .slt : (⟨S_, .i32⟩ : BufTy).Contents (Elt F) → (⟨S_, .i32⟩ : BufTy).Contents (Elt F) → (⟨S_, .i1⟩ : BufTy).Contents (Elt F)),
    StableHlo.unary main_v3_2 main_while0b_v22 (id : (⟨S_, .i32⟩ : BufTy).Contents (Elt F) → (⟨S_, .i32⟩ : BufTy).Contents (Elt F)),
    StableHlo.nullary main_while0b_c_12 (constantI S_ 32 512#32),
    StableHlo.binary main_while0b_v22 main_while0b_c_12 main_while0b_v23 (addi : (⟨S_, .i32⟩ : BufTy).Contents (Elt F) → (⟨S_, .i32⟩ : BufTy).Contents (Elt F) → (⟨S_, .i32⟩ : BufTy).Contents (Elt F)),
    StableHlo.ternary main_while0b_v21 main_while0b_v23 main_v3_2 main_while0b_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.binaryIndexed main_v3_3 main_while0b_v20 ![main_while0b_c_13, main_while0b_v24] ⟨S_, .i32⟩ main_while0b_v25 ((fun x u i => Host.dynamicUpdateSlice x u (fun k => (i k (Shape.Idx.first h_S_)).toInt) updateFits_S16x512_S16x1) : (⟨S16x512, .i32⟩ : BufTy).Contents (Elt F) → (⟨S16x1, .i32⟩ : BufTy).Contents (Elt F) → (Fin 2 → (⟨S_, .i32⟩ : BufTy).Contents (Elt F)) → (⟨S16x512, .i32⟩ : BufTy).Contents (Elt F)),
    StableHlo.nullary main_while0b_c_14 (constantI S_ 32 1#32),
    StableHlo.binary main_v3_1 main_while0b_c_14 main_while0b_v26 (addi : (⟨S_, .i32⟩ : BufTy).Contents (Elt F) → (⟨S_, .i32⟩ : BufTy).Contents (Elt F) → (⟨S_, .i32⟩ : BufTy).Contents (Elt F)),
    StableHlo.unary main_while0b_v26 main_v3_1 id,
    StableHlo.unary main_while0b_v8 main_v3_2 id,
    StableHlo.unary main_while0b_v25 main_v3_3 id,
    StableHlo.unary main_while0b_v20 main_v3_4 id,
    StableHlo.unary main_while0b_v15 main_v3_5 id ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_c_0, main_v1, main_cst, main_v2, main_c_1, main_c_2, main_v3_0, main_v3_1, main_v3_2, main_v3_3, main_v3_4, main_v3_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_8, main_while0b_v8, main_while0b_v9]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v10]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v11, main_while0b_v12, main_while0b_v13, main_while0b_cst_9, main_while0b_v14, main_while0b_v15]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v16]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_cst, main_while0b_call2_c, main_while0b_call2_v1_0, main_while0b_v17]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v18, main_while0b_c_10, main_while0b_v19, main_while0b_v20, main_while0b_c_11, main_while0b_v21, main_while0b_v22, main_while0b_c_12, main_while0b_v23, main_while0b_v24, main_while0b_c_13, main_while0b_v25, main_while0b_c_14, main_while0b_v26, main_v3_1, main_v3_2, main_v3_3, main_v3_4, main_v3_5]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_1` writes, in order. -/
abbrev hostOps0_1_W : List (Ref sig .tc) := [main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v5]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v6]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v7]
theorem hostOps0_4_writes : (hostOps0_4 : List (HloOp τ sig (Elt F))).Forall fun op => op.writes ⊆ (hostOps0_4_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_8 (constantI S_ 32 511#32),
    StableHlo.binary main_v3_1 main_while0c_c_8 main_while0c_v8 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5]
abbrev postI : List (List (HloOp τ sig (Elt F))) := [hostOps0_1, hostOps0_2, hostOps0_3, hostOps0_4]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil))))

/-- The reference each operation of `condOps` writes, in order. -/
abbrev condOps_W : List (Ref sig .tc) := [main_while0c_c_8, main_while0c_v8]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_1`) is written by one stretch of the body, `while0Ops0_5`: not by the condition, nor by the
    body's other stretches. -/
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)
theorem ctr_while0Ops0_2 (V : Valuation τ sig (Elt F)) : after while0Ops0_2 V (Proc.devRef .tc main_v3_1) = V (Proc.devRef .tc main_v3_1) :=
  after_of_writes_sub while0Ops0_2 V while0Ops0_2_writes (by decide +kernel)
theorem ctr_while0Ops0_3 (V : Valuation τ sig (Elt F)) : after while0Ops0_3 V (Proc.devRef .tc main_v3_1) = V (Proc.devRef .tc main_v3_1) :=
  after_of_writes_sub while0Ops0_3 V while0Ops0_3_writes (by decide +kernel)
theorem ctr_while0Ops0_4 (V : Valuation τ sig (Elt F)) : after while0Ops0_4 V (Proc.devRef .tc main_v3_1) = V (Proc.devRef .tc main_v3_1) :=
  after_of_writes_sub while0Ops0_4 V while0Ops0_4_writes (by decide +kernel)

/-- The body's operations 1 … 3 of 56. -/
abbrev trip_w0 : List (HloOp τ sig (Elt F)) :=
  [ StableHlo.nullary main_while0b_c_8 (constantI S_ 32 1#32),
    StableHlo.binary main_v3_2 main_while0b_c_8 main_while0b_v8 (addi : (⟨S_, .i32⟩ : BufTy).Contents (Elt F) → (⟨S_, .i32⟩ : BufTy).Contents (Elt F) → (⟨S_, .i32⟩ : BufTy).Contents (Elt F)),
    StableHlo.unary main_v3_4 main_while0b_v9 (broadcastInDim S16x1x1 ![0, 1] bcast_S16x1_S16x1x1_0_1 : (⟨S16x1, .i32⟩ : BufTy).Contents (Elt F) → (⟨S16x1x1, .i32⟩ : BufTy).Contents (Elt F)) ]

/-- The body's operations 4 … 25 of 56. -/
abbrev trip_w1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x1, .i32⟩) (broadcastInDim S16x1x1 ![] bcast_S_S16x1x1),
    StableHlo.TRef.binary (.of main_while0b_v9 : StableHlo.TRef sig ⟨S16x1x1, .i32⟩) (.of main_while0b_call0_v0 : StableHlo.TRef sig ⟨S16x1x1, .i32⟩) (.of main_while0b_call0_v1 : StableHlo.TRef sig ⟨S16x1x1, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S16x1x1, .i32⟩) (broadcastInDim S16x1x1 ![] bcast_S_S16x1x1),
    StableHlo.TRef.binary (.of main_while0b_v9 : StableHlo.TRef sig ⟨S16x1x1, .i32⟩) (.of main_while0b_call0_v2 : StableHlo.TRef sig ⟨S16x1x1, .i32⟩) (.of main_while0b_call0_v3 : StableHlo.TRef sig ⟨S16x1x1, .i32⟩) addi,
    StableHlo.TRef.ternary (.of main_while0b_call0_v1 : StableHlo.TRef sig ⟨S16x1x1, .i1⟩) (.of main_while0b_call0_v3 : StableHlo.TRef sig ⟨S16x1x1, .i32⟩) (.of main_while0b_v9 : StableHlo.TRef sig ⟨S16x1x1, .i32⟩) (.of main_while0b_call0_v4 : StableHlo.TRef sig ⟨S16x1x1, .i32⟩) select,
    StableHlo.TRef.nullary (.of main_while0b_call0_c_1 : StableHlo.TRef sig ⟨S1, .i32⟩) (constantI S1 32 8191#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S16x1x1, .i32⟩) (broadcastInDim S16x1x1 ![] bcast_S_S16x1x1),
    StableHlo.TRef.binary (.of main_while0b_call0_v4 : StableHlo.TRef sig ⟨S16x1x1, .i32⟩) (.of main_while0b_call0_v5 : StableHlo.TRef sig ⟨S16x1x1, .i32⟩) (.of main_while0b_call0_v6 : StableHlo.TRef sig ⟨S16x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S16x1x1, .i32⟩) (broadcastInDim S16x1x1 ![0, 1, 2] bcast_S1x1x1_S16x1x1_0_1_2),
    StableHlo.TRef.binary (.of main_while0b_call0_v4 : StableHlo.TRef sig ⟨S16x1x1, .i32⟩) (.of main_while0b_call0_v8 : StableHlo.TRef sig ⟨S16x1x1, .i32⟩) (.of main_while0b_call0_v9 : StableHlo.TRef sig ⟨S16x1x1, .i1⟩) (cmpi .sle),
    StableHlo.TRef.binary (.of main_while0b_call0_v6 : StableHlo.TRef sig ⟨S16x1x1, .i1⟩) (.of main_while0b_call0_v9 : StableHlo.TRef sig ⟨S16x1x1, .i1⟩) (.of main_while0b_call0_v10 : StableHlo.TRef sig ⟨S16x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S16x1x1, .i1⟩) (.of main_while0b_call0_c_3 : StableHlo.TRef sig ⟨S_, .i1⟩) (.of main_while0b_call0_v11 : StableHlo.TRef sig ⟨S16x1, .i1⟩) (fun x v => Host.reduce IntOp.andi x v reducesTo_S16x1x1_S16x1_d2 h_S_),
    StableHlo.TRef.binary (.of main_v3_0 : StableHlo.TRef sig ⟨S16x8192x3, .f32⟩) (.of main_while0b_call0_v4 : StableHlo.TRef sig ⟨S16x1x1, .i32⟩) (.of main_while0b_call0_v12 : StableHlo.TRef sig ⟨S16x1x3, .f32⟩) (fun x i => Host.gather gather_S16x8192x3_S16x1x1_S16x1x3_2_1_0_0_1_2_113 x i),
    StableHlo.TRef.unary (.of main_while0b_call0_v11 : StableHlo.TRef sig ⟨S16x1, .i1⟩) (.of main_while0b_call0_v13 : StableHlo.TRef sig ⟨S16x1x3, .i1⟩) (broadcastInDim S16x1x3 ![0, 1] bcast_S16x1_S16x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S16x1x3, .f32⟩) (broadcastInDim S16x1x3 ![] bcast_S_S16x1x3),
    StableHlo.TRef.ternary (.of main_while0b_call0_v13 : StableHlo.TRef sig ⟨S16x1x3, .i1⟩) (.of main_while0b_call0_v12 : StableHlo.TRef sig ⟨S16x1x3, .f32⟩) (.of main_while0b_call0_v14 : StableHlo.TRef sig ⟨S16x1x3, .f32⟩) (.of main_while0b_v10 : StableHlo.TRef sig ⟨S16x1x3, .f32⟩) select ]

/-- The body's operations 26 … 31 of 56. -/
abbrev trip_w2 : List (HloOp τ sig (Elt F)) :=
  [ StableHlo.unary main_while0b_v10 main_while0b_v11 (broadcastInDim S16x8192x3 ![0, 1, 2] bcast_S16x1x3_S16x8192x3_0_1_2 : (⟨S16x1x3, .f32⟩ : BufTy).Contents (Elt F) → (⟨S16x8192x3, .f32⟩ : BufTy).Contents (Elt F)),
    StableHlo.binary main_v3_0 main_while0b_v11 main_while0b_v12 (subf : (⟨S16x8192x3, .f32⟩ : BufTy).Contents (Elt F) → (⟨S16x8192x3, .f32⟩ : BufTy).Contents (Elt F) → (⟨S16x8192x3, .f32⟩ : BufTy).Contents (Elt F)),
    StableHlo.binary main_while0b_v12 main_while0b_v12 main_while0b_v13 (mulf : (⟨S16x8192x3, .f32⟩ : BufTy).Contents (Elt F) → (⟨S16x8192x3, .f32⟩ : BufTy).Contents (Elt F) → (⟨S16x8192x3, .f32⟩ : BufTy).Contents (Elt F)),
    StableHlo.nullary main_while0b_cst_9 (constant S_ .f32 0x00000000#32),
    StableHlo.binary main_while0b_v13 main_while0b_cst_9 main_while0b_v14 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    StableHlo.binary main_v3_5 main_while0b_v14 main_while0b_v15 (minimumf : (⟨S16x8192, .f32⟩ : BufTy).Contents (Elt F) → (⟨S16x8192, .f32⟩ : BufTy).Contents (Elt F) → (⟨S16x8192, .f32⟩ : BufTy).Contents (Elt F)) ]

/-- The body's operations 32 … 32 of 56. -/
abbrev trip_w3 : List (HloOp τ sig (Elt F)) :=
  [ StableHlo.TRef.unary (.of main_while0b_v15 : StableHlo.TRef sig ⟨S16x8192, .f32⟩) (.of main_while0b_v16 : StableHlo.TRef sig ⟨S16x8192, .f32⟩) (Host.reverse [1]) ]

/-- The body's operations 33 … 37 of 56. -/
abbrev trip_w4 : List (HloOp τ sig (Elt F)) :=
  [ StableHlo.TRef.nullary (.of main_while0b_call2_v0 : StableHlo.TRef sig ⟨S16x8192, .i32⟩) (iotaInDim S16x8192 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v16 : StableHlo.TRef sig ⟨S16x8192, .f32⟩) (.of main_while0b_call2_v0 : StableHlo.TRef sig ⟨S16x8192, .i32⟩) (.of main_while0b_call2_cst : StableHlo.TRef sig ⟨S_, .f32⟩) (.of main_while0b_call2_c : StableHlo.TRef sig ⟨S_, .i32⟩) (.of main_while0b_call2_v1_0 : StableHlo.TRef sig ⟨S16, .f32⟩) (fun x y u v jj => (Host.argReduce reducer_argmax_f32_i32 x y u v reducesTo_S16x8192_S16_d1 h_S_ jj).1),
    StableHlo.TRef.quaternary (.of main_while0b_v16 : StableHlo.TRef sig ⟨S16x8192, .f32⟩) (.of main_while0b_call2_v0 : StableHlo.TRef sig ⟨S16x8192, .i32⟩) (.of main_while0b_call2_cst : StableHlo.TRef sig ⟨S_, .f32⟩) (.of main_while0b_call2_c : StableHlo.TRef sig ⟨S_, .i32⟩) (.of main_while0b_v17 : StableHlo.TRef sig ⟨S16, .i32⟩) (fun x y u v jj => (Host.argReduce reducer_argmax_f32_i32 x y u v reducesTo_S16x8192_S16_d1 h_S_ jj).2) ]

/-- The body's operations 38 … 49 of 56. -/
abbrev trip_w5 : List (HloOp τ sig (Elt F)) :=
  [ StableHlo.unary main_while0b_v17 main_while0b_v18 (broadcastInDim S16x1 ![0] bcast_S16_S16x1_0 : (⟨S16, .i32⟩ : BufTy).Contents (Elt F) → (⟨S16x1, .i32⟩ : BufTy).Contents (Elt F)),
    StableHlo.nullary main_while0b_c_10 (constantI S_ 32 8191#32),
    StableHlo.unary main_while0b_c_10 main_while0b_v19 (broadcastInDim S16x1 ![] bcast_S_S16x1 : (⟨S_, .i32⟩ : BufTy).Contents (Elt F) → (⟨S16x1, .i32⟩ : BufTy).Contents (Elt F)),
    StableHlo.binary main_while0b_v19 main_while0b_v18 main_while0b_v20 (subi : (⟨S16x1, .i32⟩ : BufTy).Contents (Elt F) → (⟨S16x1, .i32⟩ : BufTy).Contents (Elt F) → (⟨S16x1, .i32⟩ : BufTy).Contents (Elt F)),
    StableHlo.nullary main_while0b_c_11 (constantI S_ 32 0#32),
    StableHlo.binary main_v3_2 main_while0b_c_11 main_while0b_v21 (cmpi .slt : (⟨S_, .i32⟩ : BufTy).Contents (Elt F) → (⟨S_, .i32⟩ : BufTy).Contents (Elt F) → (⟨S_, .i1⟩ : BufTy).Contents (Elt F)),
    StableHlo.unary main_v3_2 main_while0b_v22 (id : (⟨S_, .i32⟩ : BufTy).Contents (Elt F) → (⟨S_, .i32⟩ : BufTy).Contents (Elt F)),
    StableHlo.nullary main_while0b_c_12 (constantI S_ 32 512#32),
    StableHlo.binary main_while0b_v22 main_while0b_c_12 main_while0b_v23 (addi : (⟨S_, .i32⟩ : BufTy).Contents (Elt F) → (⟨S_, .i32⟩ : BufTy).Contents (Elt F) → (⟨S_, .i32⟩ : BufTy).Contents (Elt F)),
    StableHlo.ternary main_while0b_v21 main_while0b_v23 main_v3_2 main_while0b_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.binaryIndexed main_v3_3 main_while0b_v20 ![main_while0b_c_13, main_while0b_v24] ⟨S_, .i32⟩ main_while0b_v25 ((fun x u i => Host.dynamicUpdateSlice x u (fun k => (i k (Shape.Idx.first h_S_)).toInt) updateFits_S16x512_S16x1) : (⟨S16x512, .i32⟩ : BufTy).Contents (Elt F) → (⟨S16x1, .i32⟩ : BufTy).Contents (Elt F) → (Fin 2 → (⟨S_, .i32⟩ : BufTy).Contents (Elt F)) → (⟨S16x512, .i32⟩ : BufTy).Contents (Elt F)) ]

/-- The body's operations 50 … 56 of 56: the counter's step and the copies back into the carried buffers. -/
abbrev while0Ops0_5_step : List (HloOp τ sig (Elt F)) :=
  [ StableHlo.nullary main_while0b_c_14 (constantI S_ 32 1#32),
    StableHlo.binary main_v3_1 main_while0b_c_14 main_while0b_v26 (addi : (⟨S_, .i32⟩ : BufTy).Contents (Elt F) → (⟨S_, .i32⟩ : BufTy).Contents (Elt F) → (⟨S_, .i32⟩ : BufTy).Contents (Elt F)),
    StableHlo.unary main_while0b_v26 main_v3_1 id,
    StableHlo.unary main_while0b_v8 main_v3_2 id,
    StableHlo.unary main_while0b_v25 main_v3_3 id,
    StableHlo.unary main_while0b_v20 main_v3_4 id,
    StableHlo.unary main_while0b_v15 main_v3_5 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl
set_option maxRecDepth 5000 in
/-- `while0Ops0_4` is its windows in order. -/
theorem while0Ops0_4_cut : (while0Ops0_4 : List (HloOp τ sig (Elt F))) = trip_w4 := rfl
set_option maxRecDepth 5000 in
/-- `while0Ops0_5` is its windows in order, then the step. -/
theorem while0Ops0_5_cut : (while0Ops0_5 : List (HloOp τ sig (Elt F))) = trip_w5 ++ (while0Ops0_5_step) := rfl

/-- The buffers that window `trip_w0`'s operations write. -/
abbrev trip_w0_W : List (Ref sig .tc) := [main_while0b_c_8, main_while0b_v8, main_while0b_v9]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v10]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_v11, main_while0b_v12, main_while0b_v13, main_while0b_cst_9, main_while0b_v14, main_while0b_v15]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_v16]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w4`'s operations write. -/
abbrev trip_w4_W : List (Ref sig .tc) := [main_while0b_call2_v0, main_while0b_call2_cst, main_while0b_call2_c, main_while0b_call2_v1_0, main_while0b_v17]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_v18, main_while0b_c_10, main_while0b_v19, main_while0b_v20, main_while0b_c_11, main_while0b_v21, main_while0b_v22, main_while0b_c_12, main_while0b_v23, main_while0b_v24, main_while0b_c_13, main_while0b_v25]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w5 (V : Valuation τ sig (Elt F)) : after trip_w5 V (Proc.devRef .tc main_v3_1) = V (Proc.devRef .tc main_v3_1) :=
  after_of_writes_sub trip_w5 V trip_w5_writes (by decide +kernel)

set_option maxRecDepth 100000 in
/-- `while0Ops0_5_step` leaves the counter one step on. -/
theorem ctr_while0Ops0_5_step (Y : Valuation τ sig (Elt F)) :
    after while0Ops0_5_step Y (Proc.devRef .tc main_v3_1) = addi (Y (Proc.devRef .tc main_v3_1)) (constantI S_ 32 1#32) := by
  after_results
  rfl

set_option maxRecDepth 100000 in
/-- `while0Ops0_5` leaves the counter one step on: its windows do not write the counter, and `while0Ops0_5_step` steps it. -/
theorem ctr_step (X : Valuation τ sig (Elt F)) :
    after while0Ops0_5 X (Proc.devRef .tc main_v3_1) = addi (X (Proc.devRef .tc main_v3_1)) (constantI S_ 32 1#32) := by
  simp only [while0Ops0_5_cut, after_append]
  rw [ctr_while0Ops0_5_step, ctr_trip_w5]

/-- The counter is the loop's lower bound at the loop's entry: its last writer before the loop read back. -/
theorem ctr_entry (c : Dev nD) : entryContents preI m c (Proc.devRef .tc main_v3_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 511 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_8 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 511 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 511 m ρ (cond_spec m)

/-! ## One trip's values -/

set_option maxRecDepth 8192 in
/-- `main_while0b_v9`'s composed term of the carried buffers (named: it is used 3 times). -/
def res_main_while0b_v9 (V0 : Valuation τ sig (Elt F)) : (Proc.devRef .tc main_while0b_v9 : DevRef τ sig).ty.Contents (Elt F) :=
  broadcastInDim S16x1x1 ![0, 1] bcast_S16x1_S16x1x1_0_1 (V0 (Proc.devRef .tc main_v3_4))

set_option maxRecDepth 8192 in
/-- `main_while0b_call0_v4`'s composed term of the carried buffers (named: it is used 3 times). -/
def res_main_while0b_call0_v4 (V0 : Valuation τ sig (Elt F)) : (Proc.devRef .tc main_while0b_call0_v4 : DevRef τ sig).ty.Contents (Elt F) :=
  select (cmpi .slt (res_main_while0b_v9 V0) (broadcastInDim S16x1x1 ![] bcast_S_S16x1x1 (constantI S_ 32 0#32))) (addi (res_main_while0b_v9 V0) (broadcastInDim S16x1x1 ![] bcast_S_S16x1x1 (constantI S_ 32 8192#32))) (res_main_while0b_v9 V0)

set_option maxRecDepth 8192 in
/-- `main_while0b_v12`'s composed term of the carried buffers (named: it is used 2 times). -/
def res_main_while0b_v12 (V0 : Valuation τ sig (Elt F)) : (Proc.devRef .tc main_while0b_v12 : DevRef τ sig).ty.Contents (Elt F) :=
  subf (V0 (Proc.devRef .tc main_v3_0)) (broadcastInDim S16x8192x3 ![0, 1, 2] bcast_S16x1x3_S16x8192x3_0_1_2 (select (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_)) (Host.gather gather_S16x8192x3_S16x1x1_S16x1x3_2_1_0_0_1_2_113 (V0 (Proc.devRef .tc main_v3_0)) (res_main_while0b_call0_v4 V0)) (broadcastInDim S16x1x3 ![] bcast_S_S16x1x3 (constant S_ .f32 0x7FC00000#32))))

set_option maxRecDepth 8192 in
/-- `main_while0b_v15`'s composed term of the carried buffers (named: it is used 2 times). -/
def res_main_while0b_v15 (V0 : Valuation τ sig (Elt F)) : (Proc.devRef .tc main_while0b_v15 : DevRef τ sig).ty.Contents (Elt F) :=
  minimumf (V0 (Proc.devRef .tc main_v3_5)) (Host.reduceAdd (mulf (res_main_while0b_v12 V0) (res_main_while0b_v12 V0)) (constant S_ .f32 0x00000000#32) reducesTo_S16x8192x3_S16x8192_d2 h_S_)

set_option maxRecDepth 8192 in
/-- `main_while0b_v16`'s composed term of the carried buffers (named: it is used 2 times). -/
def res_main_while0b_v16 (V0 : Valuation τ sig (Elt F)) : (Proc.devRef .tc main_while0b_v16 : DevRef τ sig).ty.Contents (Elt F) :=
  Host.reverse [1] (res_main_while0b_v15 V0)

set_option maxRecDepth 8192 in
/-- `main_while0b_call2_v0`'s composed term of the carried buffers (named: it is used 2 times). -/
def res_main_while0b_call2_v0 (V0 : Valuation τ sig (Elt F)) : (Proc.devRef .tc main_while0b_call2_v0 : DevRef τ sig).ty.Contents (Elt F) :=
  iotaInDim S16x8192 32 1

set_option maxRecDepth 8192 in
/-- `main_while0b_call2_cst`'s composed term of the carried buffers (named: it is used 2 times). -/
def res_main_while0b_call2_cst (V0 : Valuation τ sig (Elt F)) : (Proc.devRef .tc main_while0b_call2_cst : DevRef τ sig).ty.Contents (Elt F) :=
  constant S_ .f32 0xFF800000#32

set_option maxRecDepth 8192 in
/-- `main_while0b_call2_c`'s composed term of the carried buffers (named: it is used 2 times). -/
def res_main_while0b_call2_c (V0 : Valuation τ sig (Elt F)) : (Proc.devRef .tc main_while0b_call2_c : DevRef τ sig).ty.Contents (Elt F) :=
  constantI S_ 32 0#32

set_option maxRecDepth 8192 in
/-- `main_while0b_v20`'s composed term of the carried buffers (named: it is used 2 times). -/
def res_main_while0b_v20 (V0 : Valuation τ sig (Elt F)) : (Proc.devRef .tc main_while0b_v20 : DevRef τ sig).ty.Contents (Elt F) :=
  subi (broadcastInDim S16x1 ![] bcast_S_S16x1 (constantI S_ 32 8191#32)) (broadcastInDim S16x1 ![0] bcast_S16_S16x1_0 ((fun jj => (Host.argReduce reducer_argmax_f32_i32 (res_main_while0b_v16 V0) (res_main_while0b_call2_v0 V0) (res_main_while0b_call2_cst V0) (res_main_while0b_call2_c V0) reducesTo_S16x8192_S16_d1 h_S_ jj).2)))

/-- The device's buffer contents before the body's first window. -/
def val0 (V0 : Valuation τ sig (Elt F)) : Valuation τ sig (Elt F) := V0
theorem val0_main_v3_2 (V0 : Valuation τ sig (Elt F)) : val0 V0 (no_index (Proc.devRef .tc main_v3_2)) = V0 (Proc.devRef .tc main_v3_2) := rfl
theorem val0_main_v3_4 (V0 : Valuation τ sig (Elt F)) : val0 V0 (no_index (Proc.devRef .tc main_v3_4)) = V0 (Proc.devRef .tc main_v3_4) := rfl
theorem val0_main_v3_0 (V0 : Valuation τ sig (Elt F)) : val0 V0 (no_index (Proc.devRef .tc main_v3_0)) = V0 (Proc.devRef .tc main_v3_0) := rfl
theorem val0_main_v3_5 (V0 : Valuation τ sig (Elt F)) : val0 V0 (no_index (Proc.devRef .tc main_v3_5)) = V0 (Proc.devRef .tc main_v3_5) := rfl
theorem val0_main_v3_3 (V0 : Valuation τ sig (Elt F)) : val0 V0 (no_index (Proc.devRef .tc main_v3_3)) = V0 (Proc.devRef .tc main_v3_3) := rfl
theorem val0_main_v3_1 (V0 : Valuation τ sig (Elt F)) : val0 V0 (no_index (Proc.devRef .tc main_v3_1)) = V0 (Proc.devRef .tc main_v3_1) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v3_2 (V0 : Valuation τ sig (Elt F)) : val1 V0 (no_index (Proc.devRef .tc main_v3_2)) = V0 (Proc.devRef .tc main_v3_2) :=
  (val1_keep V0 main_v3_2 (by decide)).trans (val0_main_v3_2 V0)
theorem val1_main_v3_4 (V0 : Valuation τ sig (Elt F)) : val1 V0 (no_index (Proc.devRef .tc main_v3_4)) = V0 (Proc.devRef .tc main_v3_4) :=
  (val1_keep V0 main_v3_4 (by decide)).trans (val0_main_v3_4 V0)
theorem val1_main_v3_0 (V0 : Valuation τ sig (Elt F)) : val1 V0 (no_index (Proc.devRef .tc main_v3_0)) = V0 (Proc.devRef .tc main_v3_0) :=
  (val1_keep V0 main_v3_0 (by decide)).trans (val0_main_v3_0 V0)
theorem val1_main_v3_5 (V0 : Valuation τ sig (Elt F)) : val1 V0 (no_index (Proc.devRef .tc main_v3_5)) = V0 (Proc.devRef .tc main_v3_5) :=
  (val1_keep V0 main_v3_5 (by decide)).trans (val0_main_v3_5 V0)
theorem val1_main_v3_3 (V0 : Valuation τ sig (Elt F)) : val1 V0 (no_index (Proc.devRef .tc main_v3_3)) = V0 (Proc.devRef .tc main_v3_3) :=
  (val1_keep V0 main_v3_3 (by decide)).trans (val0_main_v3_3 V0)
theorem val1_main_v3_1 (V0 : Valuation τ sig (Elt F)) : val1 V0 (no_index (Proc.devRef .tc main_v3_1)) = V0 (Proc.devRef .tc main_v3_1) :=
  (val1_keep V0 main_v3_1 (by decide)).trans (val0_main_v3_1 V0)
set_option maxRecDepth 8192 in
theorem val1_main_while0b_v8 (V0 : Valuation τ sig (Elt F)) : val1 V0 (no_index (Proc.devRef .tc main_while0b_v8)) = addi (V0 (Proc.devRef .tc main_v3_2)) (constantI S_ 32 1#32) := by
  unfold val1
  simp only [trip_w0]
  after_results_entrywise [val0_main_v3_2, cast_eq]
set_option maxRecDepth 8192 in
theorem val1_main_while0b_v9 (V0 : Valuation τ sig (Elt F)) : val1 V0 (no_index (Proc.devRef .tc main_while0b_v9)) = res_main_while0b_v9 V0 := by
  unfold val1
  simp only [trip_w0]
  after_results_entrywise [val0_main_v3_4, res_main_while0b_v9, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v3_2 (V0 : Valuation τ sig (Elt F)) : val2 V0 (no_index (Proc.devRef .tc main_v3_2)) = V0 (Proc.devRef .tc main_v3_2) :=
  (val2_keep V0 main_v3_2 (by decide)).trans (val1_main_v3_2 V0)
theorem val2_main_v3_4 (V0 : Valuation τ sig (Elt F)) : val2 V0 (no_index (Proc.devRef .tc main_v3_4)) = V0 (Proc.devRef .tc main_v3_4) :=
  (val2_keep V0 main_v3_4 (by decide)).trans (val1_main_v3_4 V0)
theorem val2_main_v3_0 (V0 : Valuation τ sig (Elt F)) : val2 V0 (no_index (Proc.devRef .tc main_v3_0)) = V0 (Proc.devRef .tc main_v3_0) :=
  (val2_keep V0 main_v3_0 (by decide)).trans (val1_main_v3_0 V0)
theorem val2_main_v3_5 (V0 : Valuation τ sig (Elt F)) : val2 V0 (no_index (Proc.devRef .tc main_v3_5)) = V0 (Proc.devRef .tc main_v3_5) :=
  (val2_keep V0 main_v3_5 (by decide)).trans (val1_main_v3_5 V0)
theorem val2_main_v3_3 (V0 : Valuation τ sig (Elt F)) : val2 V0 (no_index (Proc.devRef .tc main_v3_3)) = V0 (Proc.devRef .tc main_v3_3) :=
  (val2_keep V0 main_v3_3 (by decide)).trans (val1_main_v3_3 V0)
theorem val2_main_v3_1 (V0 : Valuation τ sig (Elt F)) : val2 V0 (no_index (Proc.devRef .tc main_v3_1)) = V0 (Proc.devRef .tc main_v3_1) :=
  (val2_keep V0 main_v3_1 (by decide)).trans (val1_main_v3_1 V0)
theorem val2_main_while0b_v8 (V0 : Valuation τ sig (Elt F)) : val2 V0 (no_index (Proc.devRef .tc main_while0b_v8)) = addi (V0 (Proc.devRef .tc main_v3_2)) (constantI S_ 32 1#32) :=
  (val2_keep V0 main_while0b_v8 (by decide)).trans (val1_main_while0b_v8 V0)
set_option maxRecDepth 8192 in
set_option maxHeartbeats 2000000 in
theorem val2_main_while0b_v10 (V0 : Valuation τ sig (Elt F)) : val2 V0 (no_index (Proc.devRef .tc main_while0b_v10)) = select (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_)) (Host.gather gather_S16x8192x3_S16x1x1_S16x1x3_2_1_0_0_1_2_113 (V0 (Proc.devRef .tc main_v3_0)) (res_main_while0b_call0_v4 V0)) (broadcastInDim S16x1x3 ![] bcast_S_S16x1x3 (constant S_ .f32 0x7FC00000#32)) := by
  unfold val2
  simp only [trip_w1]
  after_results_entrywise [val1_main_while0b_v9, val1_main_v3_0, res_main_while0b_call0_v4, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v3_2 (V0 : Valuation τ sig (Elt F)) : val3 V0 (no_index (Proc.devRef .tc main_v3_2)) = V0 (Proc.devRef .tc main_v3_2) :=
  (val3_keep V0 main_v3_2 (by decide)).trans (val2_main_v3_2 V0)
theorem val3_main_v3_4 (V0 : Valuation τ sig (Elt F)) : val3 V0 (no_index (Proc.devRef .tc main_v3_4)) = V0 (Proc.devRef .tc main_v3_4) :=
  (val3_keep V0 main_v3_4 (by decide)).trans (val2_main_v3_4 V0)
theorem val3_main_v3_0 (V0 : Valuation τ sig (Elt F)) : val3 V0 (no_index (Proc.devRef .tc main_v3_0)) = V0 (Proc.devRef .tc main_v3_0) :=
  (val3_keep V0 main_v3_0 (by decide)).trans (val2_main_v3_0 V0)
theorem val3_main_v3_5 (V0 : Valuation τ sig (Elt F)) : val3 V0 (no_index (Proc.devRef .tc main_v3_5)) = V0 (Proc.devRef .tc main_v3_5) :=
  (val3_keep V0 main_v3_5 (by decide)).trans (val2_main_v3_5 V0)
theorem val3_main_v3_3 (V0 : Valuation τ sig (Elt F)) : val3 V0 (no_index (Proc.devRef .tc main_v3_3)) = V0 (Proc.devRef .tc main_v3_3) :=
  (val3_keep V0 main_v3_3 (by decide)).trans (val2_main_v3_3 V0)
theorem val3_main_v3_1 (V0 : Valuation τ sig (Elt F)) : val3 V0 (no_index (Proc.devRef .tc main_v3_1)) = V0 (Proc.devRef .tc main_v3_1) :=
  (val3_keep V0 main_v3_1 (by decide)).trans (val2_main_v3_1 V0)
theorem val3_main_while0b_v8 (V0 : Valuation τ sig (Elt F)) : val3 V0 (no_index (Proc.devRef .tc main_while0b_v8)) = addi (V0 (Proc.devRef .tc main_v3_2)) (constantI S_ 32 1#32) :=
  (val3_keep V0 main_while0b_v8 (by decide)).trans (val2_main_while0b_v8 V0)
set_option maxRecDepth 8192 in
theorem val3_main_while0b_v15 (V0 : Valuation τ sig (Elt F)) : val3 V0 (no_index (Proc.devRef .tc main_while0b_v15)) = res_main_while0b_v15 V0 := by
  unfold val3
  simp only [trip_w2]
  after_results_entrywise [val2_main_while0b_v10, val2_main_v3_0, val2_main_v3_5, res_main_while0b_v12, res_main_while0b_v15, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v3_2 (V0 : Valuation τ sig (Elt F)) : val4 V0 (no_index (Proc.devRef .tc main_v3_2)) = V0 (Proc.devRef .tc main_v3_2) :=
  (val4_keep V0 main_v3_2 (by decide)).trans (val3_main_v3_2 V0)
theorem val4_main_v3_4 (V0 : Valuation τ sig (Elt F)) : val4 V0 (no_index (Proc.devRef .tc main_v3_4)) = V0 (Proc.devRef .tc main_v3_4) :=
  (val4_keep V0 main_v3_4 (by decide)).trans (val3_main_v3_4 V0)
theorem val4_main_v3_0 (V0 : Valuation τ sig (Elt F)) : val4 V0 (no_index (Proc.devRef .tc main_v3_0)) = V0 (Proc.devRef .tc main_v3_0) :=
  (val4_keep V0 main_v3_0 (by decide)).trans (val3_main_v3_0 V0)
theorem val4_main_v3_5 (V0 : Valuation τ sig (Elt F)) : val4 V0 (no_index (Proc.devRef .tc main_v3_5)) = V0 (Proc.devRef .tc main_v3_5) :=
  (val4_keep V0 main_v3_5 (by decide)).trans (val3_main_v3_5 V0)
theorem val4_main_v3_3 (V0 : Valuation τ sig (Elt F)) : val4 V0 (no_index (Proc.devRef .tc main_v3_3)) = V0 (Proc.devRef .tc main_v3_3) :=
  (val4_keep V0 main_v3_3 (by decide)).trans (val3_main_v3_3 V0)
theorem val4_main_v3_1 (V0 : Valuation τ sig (Elt F)) : val4 V0 (no_index (Proc.devRef .tc main_v3_1)) = V0 (Proc.devRef .tc main_v3_1) :=
  (val4_keep V0 main_v3_1 (by decide)).trans (val3_main_v3_1 V0)
theorem val4_main_while0b_v8 (V0 : Valuation τ sig (Elt F)) : val4 V0 (no_index (Proc.devRef .tc main_while0b_v8)) = addi (V0 (Proc.devRef .tc main_v3_2)) (constantI S_ 32 1#32) :=
  (val4_keep V0 main_while0b_v8 (by decide)).trans (val3_main_while0b_v8 V0)
theorem val4_main_while0b_v15 (V0 : Valuation τ sig (Elt F)) : val4 V0 (no_index (Proc.devRef .tc main_while0b_v15)) = res_main_while0b_v15 V0 :=
  (val4_keep V0 main_while0b_v15 (by decide)).trans (val3_main_while0b_v15 V0)
set_option maxRecDepth 8192 in
theorem val4_main_while0b_v16 (V0 : Valuation τ sig (Elt F)) : val4 V0 (no_index (Proc.devRef .tc main_while0b_v16)) = res_main_while0b_v16 V0 := by
  unfold val4
  simp only [trip_w3]
  after_results_entrywise [val3_main_while0b_v15, res_main_while0b_v16, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v3_2 (V0 : Valuation τ sig (Elt F)) : val5 V0 (no_index (Proc.devRef .tc main_v3_2)) = V0 (Proc.devRef .tc main_v3_2) :=
  (val5_keep V0 main_v3_2 (by decide)).trans (val4_main_v3_2 V0)
theorem val5_main_v3_4 (V0 : Valuation τ sig (Elt F)) : val5 V0 (no_index (Proc.devRef .tc main_v3_4)) = V0 (Proc.devRef .tc main_v3_4) :=
  (val5_keep V0 main_v3_4 (by decide)).trans (val4_main_v3_4 V0)
theorem val5_main_v3_0 (V0 : Valuation τ sig (Elt F)) : val5 V0 (no_index (Proc.devRef .tc main_v3_0)) = V0 (Proc.devRef .tc main_v3_0) :=
  (val5_keep V0 main_v3_0 (by decide)).trans (val4_main_v3_0 V0)
theorem val5_main_v3_5 (V0 : Valuation τ sig (Elt F)) : val5 V0 (no_index (Proc.devRef .tc main_v3_5)) = V0 (Proc.devRef .tc main_v3_5) :=
  (val5_keep V0 main_v3_5 (by decide)).trans (val4_main_v3_5 V0)
theorem val5_main_v3_3 (V0 : Valuation τ sig (Elt F)) : val5 V0 (no_index (Proc.devRef .tc main_v3_3)) = V0 (Proc.devRef .tc main_v3_3) :=
  (val5_keep V0 main_v3_3 (by decide)).trans (val4_main_v3_3 V0)
theorem val5_main_v3_1 (V0 : Valuation τ sig (Elt F)) : val5 V0 (no_index (Proc.devRef .tc main_v3_1)) = V0 (Proc.devRef .tc main_v3_1) :=
  (val5_keep V0 main_v3_1 (by decide)).trans (val4_main_v3_1 V0)
theorem val5_main_while0b_v8 (V0 : Valuation τ sig (Elt F)) : val5 V0 (no_index (Proc.devRef .tc main_while0b_v8)) = addi (V0 (Proc.devRef .tc main_v3_2)) (constantI S_ 32 1#32) :=
  (val5_keep V0 main_while0b_v8 (by decide)).trans (val4_main_while0b_v8 V0)
theorem val5_main_while0b_v15 (V0 : Valuation τ sig (Elt F)) : val5 V0 (no_index (Proc.devRef .tc main_while0b_v15)) = res_main_while0b_v15 V0 :=
  (val5_keep V0 main_while0b_v15 (by decide)).trans (val4_main_while0b_v15 V0)
set_option maxRecDepth 8192 in
theorem val5_main_while0b_v17 (V0 : Valuation τ sig (Elt F)) : val5 V0 (no_index (Proc.devRef .tc main_while0b_v17)) = (fun jj => (Host.argReduce reducer_argmax_f32_i32 (res_main_while0b_v16 V0) (res_main_while0b_call2_v0 V0) (res_main_while0b_call2_cst V0) (res_main_while0b_call2_c V0) reducesTo_S16x8192_S16_d1 h_S_ jj).2) := by
  unfold val5
  simp only [trip_w4]
  after_results_entrywise [val4_main_while0b_v16, res_main_while0b_call2_v0, res_main_while0b_call2_cst, res_main_while0b_call2_c, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v3_2 (V0 : Valuation τ sig (Elt F)) : val6 V0 (no_index (Proc.devRef .tc main_v3_2)) = V0 (Proc.devRef .tc main_v3_2) :=
  (val6_keep V0 main_v3_2 (by decide)).trans (val5_main_v3_2 V0)
theorem val6_main_v3_4 (V0 : Valuation τ sig (Elt F)) : val6 V0 (no_index (Proc.devRef .tc main_v3_4)) = V0 (Proc.devRef .tc main_v3_4) :=
  (val6_keep V0 main_v3_4 (by decide)).trans (val5_main_v3_4 V0)
theorem val6_main_v3_0 (V0 : Valuation τ sig (Elt F)) : val6 V0 (no_index (Proc.devRef .tc main_v3_0)) = V0 (Proc.devRef .tc main_v3_0) :=
  (val6_keep V0 main_v3_0 (by decide)).trans (val5_main_v3_0 V0)
theorem val6_main_v3_5 (V0 : Valuation τ sig (Elt F)) : val6 V0 (no_index (Proc.devRef .tc main_v3_5)) = V0 (Proc.devRef .tc main_v3_5) :=
  (val6_keep V0 main_v3_5 (by decide)).trans (val5_main_v3_5 V0)
theorem val6_main_v3_3 (V0 : Valuation τ sig (Elt F)) : val6 V0 (no_index (Proc.devRef .tc main_v3_3)) = V0 (Proc.devRef .tc main_v3_3) :=
  (val6_keep V0 main_v3_3 (by decide)).trans (val5_main_v3_3 V0)
theorem val6_main_v3_1 (V0 : Valuation τ sig (Elt F)) : val6 V0 (no_index (Proc.devRef .tc main_v3_1)) = V0 (Proc.devRef .tc main_v3_1) :=
  (val6_keep V0 main_v3_1 (by decide)).trans (val5_main_v3_1 V0)
theorem val6_main_while0b_v8 (V0 : Valuation τ sig (Elt F)) : val6 V0 (no_index (Proc.devRef .tc main_while0b_v8)) = addi (V0 (Proc.devRef .tc main_v3_2)) (constantI S_ 32 1#32) :=
  (val6_keep V0 main_while0b_v8 (by decide)).trans (val5_main_while0b_v8 V0)
theorem val6_main_while0b_v15 (V0 : Valuation τ sig (Elt F)) : val6 V0 (no_index (Proc.devRef .tc main_while0b_v15)) = res_main_while0b_v15 V0 :=
  (val6_keep V0 main_while0b_v15 (by decide)).trans (val5_main_while0b_v15 V0)
set_option maxRecDepth 8192 in
set_option maxHeartbeats 1200000 in
theorem val6_main_while0b_v20 (V0 : Valuation τ sig (Elt F)) : val6 V0 (no_index (Proc.devRef .tc main_while0b_v20)) = res_main_while0b_v20 V0 := by
  unfold val6
  simp only [trip_w5]
  after_results_entrywise [val5_main_while0b_v17, res_main_while0b_v20, cast_eq]
set_option maxRecDepth 8192 in
set_option maxHeartbeats 1200000 in
theorem val6_main_while0b_v25 (V0 : Valuation τ sig (Elt F)) : val6 V0 (no_index (Proc.devRef .tc main_while0b_v25)) = Host.dynamicUpdateSlice (V0 (Proc.devRef .tc main_v3_3)) (res_main_while0b_v20 V0) (fun k => (((![constantI S_ 32 0#32, select (cmpi .slt (V0 (Proc.devRef .tc main_v3_2)) (constantI S_ 32 0#32)) (addi (id (V0 (Proc.devRef .tc main_v3_2))) (constantI S_ 32 512#32)) (V0 (Proc.devRef .tc main_v3_2))] : Fin 2 → (⟨S_, .i32⟩ : BufTy).Contents (Elt F))) k (Shape.Idx.first h_S_)).toInt) updateFits_S16x512_S16x1 := by
  unfold val6
  simp only [trip_w5]
  after_results_entrywise [val5_main_v3_2, val5_main_while0b_v17, val5_main_v3_3, res_main_while0b_v20, cast_eq]

set_option maxRecDepth 8192 in
/-- The body's stretches, from any contents: the trip's windows in order, then `while0Ops0_5`'s step. -/
theorem trip_windows (V0 : Valuation τ sig (Elt F)) : after while0Ops0_5 (after while0Ops0_4 (after while0Ops0_3 (after while0Ops0_2 (after while0Ops0_1 (after while0Ops0 (V0)))))) = after while0Ops0_5_step (val6 V0) := by
  simp only [while0Ops0_cut, while0Ops0_1_cut, while0Ops0_2_cut, while0Ops0_3_cut, while0Ops0_4_cut, while0Ops0_5_cut, after_append]
  rfl

set_option maxRecDepth 8192 in
set_option maxHeartbeats 2000000 in
/-- `main_v3_0` after one trip's body, from any contents. -/
theorem trip_main_v3_0 (V0 : Valuation τ sig (Elt F)) : afterL bodyI V0 (no_index (Proc.devRef .tc main_v3_0)) = V0 (Proc.devRef .tc main_v3_0) := by
  simp only [bodyI, afterL_cons, afterL_nil, trip_windows]
  after_results
  all_goals (try simp only [val6_main_while0b_v8, val6_main_while0b_v25, val6_main_while0b_v20, val6_main_while0b_v15, val6_main_v3_0, val6_main_v3_1, val6_main_v3_2, val6_main_v3_3, val6_main_v3_4, val6_main_v3_5]) <;> rfl
set_option maxRecDepth 8192 in
set_option maxHeartbeats 2000000 in
/-- `main_v3_1` after one trip's body, from any contents. -/
theorem trip_main_v3_1 (V0 : Valuation τ sig (Elt F)) : afterL bodyI V0 (no_index (Proc.devRef .tc main_v3_1)) = id (addi (V0 (Proc.devRef .tc main_v3_1)) (constantI S_ 32 1#32)) := by
  simp only [bodyI, afterL_cons, afterL_nil, trip_windows]
  after_results
  all_goals (try simp only [val6_main_while0b_v8, val6_main_while0b_v25, val6_main_while0b_v20, val6_main_while0b_v15, val6_main_v3_0, val6_main_v3_1, val6_main_v3_2, val6_main_v3_3, val6_main_v3_4, val6_main_v3_5]) <;> rfl
set_option maxRecDepth 8192 in
set_option maxHeartbeats 2000000 in
/-- `main_v3_2` after one trip's body, from any contents. -/
theorem trip_main_v3_2 (V0 : Valuation τ sig (Elt F)) : afterL bodyI V0 (no_index (Proc.devRef .tc main_v3_2)) = id (addi (V0 (Proc.devRef .tc main_v3_2)) (constantI S_ 32 1#32)) := by
  simp only [bodyI, afterL_cons, afterL_nil, trip_windows]
  after_results
  all_goals (try simp only [val6_main_while0b_v8, val6_main_while0b_v25, val6_main_while0b_v20, val6_main_while0b_v15, val6_main_v3_0, val6_main_v3_1, val6_main_v3_2, val6_main_v3_3, val6_main_v3_4, val6_main_v3_5]) <;> rfl
set_option maxRecDepth 8192 in
set_option maxHeartbeats 2000000 in
/-- `main_v3_3` after one trip's body, from any contents. -/
theorem trip_main_v3_3 (V0 : Valuation τ sig (Elt F)) : afterL bodyI V0 (no_index (Proc.devRef .tc main_v3_3)) = id (Host.dynamicUpdateSlice (V0 (Proc.devRef .tc main_v3_3)) (res_main_while0b_v20 V0) (fun k => (((![constantI S_ 32 0#32, select (cmpi .slt (V0 (Proc.devRef .tc main_v3_2)) (constantI S_ 32 0#32)) (addi (id (V0 (Proc.devRef .tc main_v3_2))) (constantI S_ 32 512#32)) (V0 (Proc.devRef .tc main_v3_2))] : Fin 2 → (⟨S_, .i32⟩ : BufTy).Contents (Elt F))) k (Shape.Idx.first h_S_)).toInt) updateFits_S16x512_S16x1) := by
  simp only [bodyI, afterL_cons, afterL_nil, trip_windows]
  after_results
  all_goals (try simp only [val6_main_while0b_v8, val6_main_while0b_v25, val6_main_while0b_v20, val6_main_while0b_v15, val6_main_v3_0, val6_main_v3_1, val6_main_v3_2, val6_main_v3_3, val6_main_v3_4, val6_main_v3_5]) <;> rfl
set_option maxRecDepth 8192 in
set_option maxHeartbeats 2000000 in
/-- `main_v3_4` after one trip's body, from any contents. -/
theorem trip_main_v3_4 (V0 : Valuation τ sig (Elt F)) : afterL bodyI V0 (no_index (Proc.devRef .tc main_v3_4)) = id (res_main_while0b_v20 V0) := by
  simp only [bodyI, afterL_cons, afterL_nil, trip_windows]
  after_results
  all_goals (try simp only [val6_main_while0b_v8, val6_main_while0b_v25, val6_main_while0b_v20, val6_main_while0b_v15, val6_main_v3_0, val6_main_v3_1, val6_main_v3_2, val6_main_v3_3, val6_main_v3_4, val6_main_v3_5]) <;> rfl
set_option maxRecDepth 8192 in
set_option maxHeartbeats 2000000 in
/-- `main_v3_5` after one trip's body, from any contents. -/
theorem trip_main_v3_5 (V0 : Valuation τ sig (Elt F)) : afterL bodyI V0 (no_index (Proc.devRef .tc main_v3_5)) = id (res_main_while0b_v15 V0) := by
  simp only [bodyI, afterL_cons, afterL_nil, trip_windows]
  after_results
  all_goals (try simp only [val6_main_while0b_v8, val6_main_while0b_v25, val6_main_while0b_v20, val6_main_while0b_v15, val6_main_v3_0, val6_main_v3_1, val6_main_v3_2, val6_main_v3_3, val6_main_v3_4, val6_main_v3_5]) <;> rfl

/-- The loop's carried buffers. -/
abbrev carriedRefs : List (Ref sig .tc) := [main_v3_0, main_v3_1, main_v3_2, main_v3_3, main_v3_4, main_v3_5]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v9_congr {V0 V0' : Valuation τ sig (Elt F)} (h : Agree V0 V0') : res_main_while0b_v9 V0 = res_main_while0b_v9 V0' := by
  unfold res_main_while0b_v9
  rw [h main_v3_4 (by decide)]
set_option maxRecDepth 8192 in
theorem res_main_while0b_call0_v4_congr {V0 V0' : Valuation τ sig (Elt F)} (h : Agree V0 V0') : res_main_while0b_call0_v4 V0 = res_main_while0b_call0_v4 V0' := by
  unfold res_main_while0b_call0_v4
  rw [res_main_while0b_v9_congr h]
set_option maxRecDepth 8192 in
theorem res_main_while0b_v12_congr {V0 V0' : Valuation τ sig (Elt F)} (h : Agree V0 V0') : res_main_while0b_v12 V0 = res_main_while0b_v12 V0' := by
  unfold res_main_while0b_v12
  rw [res_main_while0b_call0_v4_congr h, h main_v3_0 (by decide)]
set_option maxRecDepth 8192 in
theorem res_main_while0b_v15_congr {V0 V0' : Valuation τ sig (Elt F)} (h : Agree V0 V0') : res_main_while0b_v15 V0 = res_main_while0b_v15 V0' := by
  unfold res_main_while0b_v15
  rw [res_main_while0b_v12_congr h, h main_v3_5 (by decide)]
set_option maxRecDepth 8192 in
theorem res_main_while0b_v16_congr {V0 V0' : Valuation τ sig (Elt F)} (h : Agree V0 V0') : res_main_while0b_v16 V0 = res_main_while0b_v16 V0' := by
  unfold res_main_while0b_v16
  rw [res_main_while0b_v15_congr h]
set_option maxRecDepth 8192 in
theorem res_main_while0b_call2_v0_congr {V0 V0' : Valuation τ sig (Elt F)} (h : Agree V0 V0') : res_main_while0b_call2_v0 V0 = res_main_while0b_call2_v0 V0' := by
  unfold res_main_while0b_call2_v0
  rfl
set_option maxRecDepth 8192 in
theorem res_main_while0b_call2_cst_congr {V0 V0' : Valuation τ sig (Elt F)} (h : Agree V0 V0') : res_main_while0b_call2_cst V0 = res_main_while0b_call2_cst V0' := by
  unfold res_main_while0b_call2_cst
  rfl
set_option maxRecDepth 8192 in
theorem res_main_while0b_call2_c_congr {V0 V0' : Valuation τ sig (Elt F)} (h : Agree V0 V0') : res_main_while0b_call2_c V0 = res_main_while0b_call2_c V0' := by
  unfold res_main_while0b_call2_c
  rfl
set_option maxRecDepth 8192 in
theorem res_main_while0b_v20_congr {V0 V0' : Valuation τ sig (Elt F)} (h : Agree V0 V0') : res_main_while0b_v20 V0 = res_main_while0b_v20 V0' := by
  unfold res_main_while0b_v20
  rw [res_main_while0b_v16_congr h, res_main_while0b_call2_v0_congr h, res_main_while0b_call2_cst_congr h, res_main_while0b_call2_c_congr h]

set_option maxRecDepth 8192 in
/-- `main_v3_1` after one trip, of the contents before it. -/
def step_main_v3_1 (V0 : Valuation τ sig (Elt F)) : (Proc.devRef .tc main_v3_1 : DevRef τ sig).ty.Contents (Elt F) :=
  id (addi (V0 (Proc.devRef .tc main_v3_1)) (constantI S_ 32 1#32))
set_option maxRecDepth 8192 in
theorem step_main_v3_1_congr {V0 V0' : Valuation τ sig (Elt F)} (h : Agree V0 V0') : step_main_v3_1 V0 = step_main_v3_1 V0' := by
  unfold step_main_v3_1
  rw [h main_v3_1 (by decide)]
set_option maxRecDepth 8192 in
/-- `main_v3_2` after one trip, of the contents before it. -/
def step_main_v3_2 (V0 : Valuation τ sig (Elt F)) : (Proc.devRef .tc main_v3_2 : DevRef τ sig).ty.Contents (Elt F) :=
  id (addi (V0 (Proc.devRef .tc main_v3_2)) (constantI S_ 32 1#32))
set_option maxRecDepth 8192 in
theorem step_main_v3_2_congr {V0 V0' : Valuation τ sig (Elt F)} (h : Agree V0 V0') : step_main_v3_2 V0 = step_main_v3_2 V0' := by
  unfold step_main_v3_2
  rw [h main_v3_2 (by decide)]
set_option maxRecDepth 8192 in
/-- `main_v3_3` after one trip, of the contents before it. -/
def step_main_v3_3 (V0 : Valuation τ sig (Elt F)) : (Proc.devRef .tc main_v3_3 : DevRef τ sig).ty.Contents (Elt F) :=
  id (Host.dynamicUpdateSlice (V0 (Proc.devRef .tc main_v3_3)) (res_main_while0b_v20 V0) (fun k => (((![constantI S_ 32 0#32, select (cmpi .slt (V0 (Proc.devRef .tc main_v3_2)) (constantI S_ 32 0#32)) (addi (id (V0 (Proc.devRef .tc main_v3_2))) (constantI S_ 32 512#32)) (V0 (Proc.devRef .tc main_v3_2))] : Fin 2 → (⟨S_, .i32⟩ : BufTy).Contents (Elt F))) k (Shape.Idx.first h_S_)).toInt) updateFits_S16x512_S16x1)
set_option maxRecDepth 8192 in
theorem step_main_v3_3_congr {V0 V0' : Valuation τ sig (Elt F)} (h : Agree V0 V0') : step_main_v3_3 V0 = step_main_v3_3 V0' := by
  unfold step_main_v3_3
  rw [res_main_while0b_v20_congr h, h main_v3_3 (by decide), h main_v3_2 (by decide)]
set_option maxRecDepth 8192 in
/-- `main_v3_4` after one trip, of the contents before it. -/
def step_main_v3_4 (V0 : Valuation τ sig (Elt F)) : (Proc.devRef .tc main_v3_4 : DevRef τ sig).ty.Contents (Elt F) :=
  id (res_main_while0b_v20 V0)
set_option maxRecDepth 8192 in
theorem step_main_v3_4_congr {V0 V0' : Valuation τ sig (Elt F)} (h : Agree V0 V0') : step_main_v3_4 V0 = step_main_v3_4 V0' := by
  unfold step_main_v3_4
  rw [res_main_while0b_v20_congr h]
set_option maxRecDepth 8192 in
/-- `main_v3_5` after one trip, of the contents before it. -/
def step_main_v3_5 (V0 : Valuation τ sig (Elt F)) : (Proc.devRef .tc main_v3_5 : DevRef τ sig).ty.Contents (Elt F) :=
  id (res_main_while0b_v15 V0)
set_option maxRecDepth 8192 in
theorem step_main_v3_5_congr {V0 V0' : Valuation τ sig (Elt F)} (h : Agree V0 V0') : step_main_v3_5 V0 = step_main_v3_5 V0' := by
  unfold step_main_v3_5
  rw [res_main_while0b_v15_congr h]

/-- ONE TRIP on the carried buffers: the buffers the body writes step, everything else is as it was. -/
def STEP (V0 : Valuation τ sig (Elt F)) : Valuation τ sig (Elt F) :=
  Function.update (Function.update (Function.update (Function.update (Function.update (V0) (Proc.devRef .tc main_v3_1) (step_main_v3_1 V0)) (Proc.devRef .tc main_v3_2) (step_main_v3_2 V0)) (Proc.devRef .tc main_v3_3) (step_main_v3_3 V0)) (Proc.devRef .tc main_v3_4) (step_main_v3_4 V0)) (Proc.devRef .tc main_v3_5) (step_main_v3_5 V0)

theorem STEP_main_v3_0 (V0 : Valuation τ sig (Elt F)) : STEP V0 (Proc.devRef .tc main_v3_0) = V0 (Proc.devRef .tc main_v3_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v3_1 (V0 : Valuation τ sig (Elt F)) : STEP V0 (Proc.devRef .tc main_v3_1) = step_main_v3_1 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v3_2 (V0 : Valuation τ sig (Elt F)) : STEP V0 (Proc.devRef .tc main_v3_2) = step_main_v3_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v3_3 (V0 : Valuation τ sig (Elt F)) : STEP V0 (Proc.devRef .tc main_v3_3) = step_main_v3_3 V0 := by
  unfold STEP; rw [Function.update_of_ne (devRef_ne_of_ne (by decide))]; rw [Function.update_of_ne (devRef_ne_of_ne (by decide))]; rw [Function.update_self]
theorem STEP_main_v3_4 (V0 : Valuation τ sig (Elt F)) : STEP V0 (Proc.devRef .tc main_v3_4) = step_main_v3_4 V0 := by
  unfold STEP; rw [Function.update_of_ne (devRef_ne_of_ne (by decide))]; rw [Function.update_self]
theorem STEP_main_v3_5 (V0 : Valuation τ sig (Elt F)) : STEP V0 (Proc.devRef .tc main_v3_5) = step_main_v3_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v3_0 (after condOps X)).trans ((hc main_v3_0 (by decide)).trans (STEP_main_v3_0 X).symm)
  · exact (trip_main_v3_1 (after condOps X)).trans ((step_main_v3_1_congr hc).trans (STEP_main_v3_1 X).symm)
  · exact (trip_main_v3_2 (after condOps X)).trans ((step_main_v3_2_congr hc).trans (STEP_main_v3_2 X).symm)
  · exact (trip_main_v3_3 (after condOps X)).trans ((step_main_v3_3_congr hc).trans (STEP_main_v3_3 X).symm)
  · exact (trip_main_v3_4 (after condOps X)).trans ((step_main_v3_4_congr hc).trans (STEP_main_v3_4 X).symm)
  · exact (trip_main_v3_5 (after condOps X)).trans ((step_main_v3_5_congr hc).trans (STEP_main_v3_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v3_0, STEP_main_v3_0]; exact h main_v3_0 (by decide)
  · rw [STEP_main_v3_1, STEP_main_v3_1]; exact step_main_v3_1_congr h
  · rw [STEP_main_v3_2, STEP_main_v3_2]; exact step_main_v3_2_congr h
  · rw [STEP_main_v3_3, STEP_main_v3_3]; exact step_main_v3_3_congr h
  · rw [STEP_main_v3_4, STEP_main_v3_4]; exact step_main_v3_4_congr h
  · rw [STEP_main_v3_5, STEP_main_v3_5]; exact step_main_v3_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_4, keep_main_arg0_hostOps0_3, keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_4, keep_main_arg1_hostOps0_3, keep_main_arg1_hostOps0_2, keep_main_arg1_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
set_option maxRecDepth 65536 in
/-- `main_v5`, which the operations after the loop make, of the contents they start from. -/
def out_main_v5 (V0 : Valuation τ sig (Elt F)) : (Proc.devRef .tc main_v5 : DevRef τ sig).ty.Contents (Elt F) :=
  select (broadcastInDim S16x512x3 ![0, 1] bcast_S16x512_S16x512x3_0_1 (Host.reduce IntOp.andi (andi (cmpi .sge (select (cmpi .slt (broadcastInDim S16x512x1 ![0, 1] bcast_S16x512_S16x512x1_0_1 (V0 (Proc.devRef .tc main_v3_3))) (broadcastInDim S16x512x1 ![] bcast_S_S16x512x1 (constantI S_ 32 0#32))) (addi (broadcastInDim S16x512x1 ![0, 1] bcast_S16x512_S16x512x1_0_1 (V0 (Proc.devRef .tc main_v3_3))) (broadcastInDim S16x512x1 ![] bcast_S_S16x512x1 (constantI S_ 32 8192#32))) (broadcastInDim S16x512x1 ![0, 1] bcast_S16x512_S16x512x1_0_1 (V0 (Proc.devRef .tc main_v3_3)))) (broadcastInDim S16x512x1 ![] bcast_S_S16x512x1 (constantI S_ 32 0#32))) (cmpi .sle (select (cmpi .slt (broadcastInDim S16x512x1 ![0, 1] bcast_S16x512_S16x512x1_0_1 (V0 (Proc.devRef .tc main_v3_3))) (broadcastInDim S16x512x1 ![] bcast_S_S16x512x1 (constantI S_ 32 0#32))) (addi (broadcastInDim S16x512x1 ![0, 1] bcast_S16x512_S16x512x1_0_1 (V0 (Proc.devRef .tc main_v3_3))) (broadcastInDim S16x512x1 ![] bcast_S_S16x512x1 (constantI S_ 32 8192#32))) (broadcastInDim S16x512x1 ![0, 1] bcast_S16x512_S16x512x1_0_1 (V0 (Proc.devRef .tc main_v3_3)))) (broadcastInDim S16x512x1 ![0, 1, 2] bcast_S1x1x1_S16x512x1_0_1_2 (broadcastInDim S1x1x1 ![2] bcast_S1_S1x1x1_2 (constantI S1 32 8191#32))))) (constantI S_ 1 1#1) reducesTo_S16x512x1_S16x512_d2 h_S_)) (Host.gather gather_S16x8192x3_S16x512x1_S16x512x3_2_1_0_0_1_2_113 (V0 (Proc.devRef .tc main_arg0)) (select (cmpi .slt (broadcastInDim S16x512x1 ![0, 1] bcast_S16x512_S16x512x1_0_1 (V0 (Proc.devRef .tc main_v3_3))) (broadcastInDim S16x512x1 ![] bcast_S_S16x512x1 (constantI S_ 32 0#32))) (addi (broadcastInDim S16x512x1 ![0, 1] bcast_S16x512_S16x512x1_0_1 (V0 (Proc.devRef .tc main_v3_3))) (broadcastInDim S16x512x1 ![] bcast_S_S16x512x1 (constantI S_ 32 8192#32))) (broadcastInDim S16x512x1 ![0, 1] bcast_S16x512_S16x512x1_0_1 (V0 (Proc.devRef .tc main_v3_3))))) (broadcastInDim S16x512x3 ![] bcast_S_S16x512x3 (constant S_ .f32 0x7FC00000#32))
set_option maxRecDepth 65536 in
set_option maxHeartbeats 2000000 in
theorem post_main_v5 (V0 : Valuation τ sig (Elt F)) : afterL postI V0 (no_index (Proc.devRef .tc main_v5)) = out_main_v5 V0 := by
  unfold out_main_v5
  simp only [postI, afterL_cons, afterL_nil, hostOps0_1, hostOps0_2, hostOps0_3, hostOps0_4]
  after_results_entrywise []
set_option maxRecDepth 65536 in
theorem out_main_v5_congr {V0 V0' : Valuation τ sig (Elt F)} (h : Agree V0 V0') (h_main_arg0 : V0 (Proc.devRef .tc main_arg0) = V0' (Proc.devRef .tc main_arg0)) : out_main_v5 V0 = out_main_v5 V0' := by
  unfold out_main_v5
  rw [h main_v3_3 (by decide), h_main_arg0]
set_option maxRecDepth 65536 in
/-- `main_v7`, which the operations after the loop make, of the contents they start from. -/
def out_main_v7 (V0 : Valuation τ sig (Elt F)) : (Proc.devRef .tc main_v7 : DevRef τ sig).ty.Contents (Elt F) :=
  select (broadcastInDim S16x512x128 ![0, 1] bcast_S16x512_S16x512x128_0_1 (Host.reduce IntOp.andi (andi (cmpi .sge (select (cmpi .slt (broadcastInDim S16x512x1 ![0, 1] bcast_S16x512_S16x512x1_0_1 (V0 (Proc.devRef .tc main_v3_3))) (broadcastInDim S16x512x1 ![] bcast_S_S16x512x1 (constantI S_ 32 0#32))) (addi (broadcastInDim S16x512x1 ![0, 1] bcast_S16x512_S16x512x1_0_1 (V0 (Proc.devRef .tc main_v3_3))) (broadcastInDim S16x512x1 ![] bcast_S_S16x512x1 (constantI S_ 32 8192#32))) (broadcastInDim S16x512x1 ![0, 1] bcast_S16x512_S16x512x1_0_1 (V0 (Proc.devRef .tc main_v3_3)))) (broadcastInDim S16x512x1 ![] bcast_S_S16x512x1 (constantI S_ 32 0#32))) (cmpi .sle (select (cmpi .slt (broadcastInDim S16x512x1 ![0, 1] bcast_S16x512_S16x512x1_0_1 (V0 (Proc.devRef .tc main_v3_3))) (broadcastInDim S16x512x1 ![] bcast_S_S16x512x1 (constantI S_ 32 0#32))) (addi (broadcastInDim S16x512x1 ![0, 1] bcast_S16x512_S16x512x1_0_1 (V0 (Proc.devRef .tc main_v3_3))) (broadcastInDim S16x512x1 ![] bcast_S_S16x512x1 (constantI S_ 32 8192#32))) (broadcastInDim S16x512x1 ![0, 1] bcast_S16x512_S16x512x1_0_1 (V0 (Proc.devRef .tc main_v3_3)))) (broadcastInDim S16x512x1 ![0, 1, 2] bcast_S1x1x1_S16x512x1_0_1_2 (broadcastInDim S1x1x1 ![2] bcast_S1_S1x1x1_2 (constantI S1 32 8191#32))))) (constantI S_ 1 1#1) reducesTo_S16x512x1_S16x512_d2 h_S_)) (Host.gather gather_S16x8192x128_S16x512x1_S16x512x128_2_1_0_0_1_2_11128 (V0 (Proc.devRef .tc main_arg1)) (select (cmpi .slt (broadcastInDim S16x512x1 ![0, 1] bcast_S16x512_S16x512x1_0_1 (V0 (Proc.devRef .tc main_v3_3))) (broadcastInDim S16x512x1 ![] bcast_S_S16x512x1 (constantI S_ 32 0#32))) (addi (broadcastInDim S16x512x1 ![0, 1] bcast_S16x512_S16x512x1_0_1 (V0 (Proc.devRef .tc main_v3_3))) (broadcastInDim S16x512x1 ![] bcast_S_S16x512x1 (constantI S_ 32 8192#32))) (broadcastInDim S16x512x1 ![0, 1] bcast_S16x512_S16x512x1_0_1 (V0 (Proc.devRef .tc main_v3_3))))) (broadcastInDim S16x512x128 ![] bcast_S_S16x512x128 (constant S_ .f32 0x7FC00000#32))
set_option maxRecDepth 65536 in
set_option maxHeartbeats 2000000 in
theorem post_main_v7 (V0 : Valuation τ sig (Elt F)) : afterL postI V0 (no_index (Proc.devRef .tc main_v7)) = out_main_v7 V0 := by
  unfold out_main_v7
  simp only [postI, afterL_cons, afterL_nil, hostOps0_1, hostOps0_2, hostOps0_3, hostOps0_4]
  after_results_entrywise []
set_option maxRecDepth 65536 in
theorem out_main_v7_congr {V0 V0' : Valuation τ sig (Elt F)} (h : Agree V0 V0') (h_main_arg1 : V0 (Proc.devRef .tc main_arg1) = V0' (Proc.devRef .tc main_arg1)) : out_main_v7 V0 = out_main_v7 V0' := by
  unfold out_main_v7
  rw [h main_v3_3 (by decide), h_main_arg1]
/-- THE RUN: on every device, for any float values, from any memory with zero counters, every weakly fair execution
    of @main terminates with each result at its component of `STEP` iterated 511 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v5) = out_main_v5 (STEP^[511] (entryContents preI m c))
      ∧ r.2.mem ((c.tc : Thread nD τ).loc main_v7) = out_main_v7 (STEP^[511] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5 rfl).trans ((post_main_v5 _).trans (out_main_v5_congr (fun j hj => (cond_keeps _ j hj).trans (atK_agree m c 511 j hj)) ((keep_main_arg0_condOps _).trans ((atK_main_arg0 m c 511).trans (iter_main_arg0 m c 511).symm)))),
      (h c main_v7 rfl).trans ((post_main_v7 _).trans (out_main_v7_congr (fun j hj => (cond_keeps _ j hj).trans (atK_agree m c 511 j hj)) ((keep_main_arg1_condOps _).trans ((atK_main_arg1 m c 511).trans (iter_main_arg1 m c 511).symm)))),
      (h c main_arg0 rfl).trans ((post_keeps_main_arg0 _).trans ((keep_main_arg0_condOps _).trans (atK_main_arg0 m c 511))),
      (h c main_arg1 rfl).trans ((post_keeps_main_arg1 _).trans ((keep_main_arg1_condOps _).trans (atK_main_arg1 m c 511)))⟩) (run_fold m ρ)

end Cert.ReferenceIdeal.Value

end
-- ==== Proof.RefStepRun.lean ====
/- The reference's run stated over the step of `RefStep`: at contents that HOLD a state every value of one trip is that module's, one lemma each;
   what @main leaves before the loop holds `init`; and the results are read from the step iterated from `init` (`run_iter`). -/
module

public import proofs.«01_k».proof.Proof.RefRun
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_2 : V0 (Proc.devRef .tc main_v3_2) = s.main_v3_2
  f_3 : V0 (Proc.devRef .tc main_v3_3) = s.main_v3_3
  f_4 : V0 (Proc.devRef .tc main_v3_4) = s.main_v3_4
  f_5 : V0 (Proc.devRef .tc main_v3_5) = s.main_v3_5
  f_0 : V0 (Proc.devRef .tc main_v3_0) = s.main_v3_0
  n_1 : V0 (Proc.devRef .tc main_v3_1) = constantI S_ 32 (BitVec.ofNat 32 j)

variable {V0 s j}

set_option maxRecDepth 8192 in
theorem al_0 (h : Holds V0 s j) : (constantI S_ 32 1#32 : (Proc.devRef .tc main_while0b_c_8 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v3_2)) (constantI S_ 32 1#32) : (Proc.devRef .tc main_while0b_v8 : DevRef τ sig).ty.Contents (Elt F)) = Cert.ReferenceIdeal.Step.b1 j s := by
  unfold Cert.ReferenceIdeal.Step.b1
  rw [← al_0 h, h.f_2]
  try rfl
set_option maxRecDepth 8192 in
theorem al_2 (h : Holds V0 s j) : (res_main_while0b_v9 V0 : (Proc.devRef .tc main_while0b_v9 : DevRef τ sig).ty.Contents (Elt F)) = Cert.ReferenceIdeal.Step.b2 j s := by
  unfold res_main_while0b_v9 Cert.ReferenceIdeal.Step.b2
  rw [h.f_4]
  try rfl
set_option maxRecDepth 8192 in
theorem al_3 (h : Holds V0 s j) : (constantI S_ 32 0#32 : (Proc.devRef .tc main_while0b_call0_c : DevRef τ sig).ty.Contents (Elt F)) = Cert.ReferenceIdeal.Step.b3 j s := by
  unfold Cert.ReferenceIdeal.Step.b3
  rfl
set_option maxRecDepth 8192 in
theorem al_4 (h : Holds V0 s j) : (broadcastInDim S16x1x1 ![] bcast_S_S16x1x1 (constantI S_ 32 0#32) : (Proc.devRef .tc main_while0b_call0_v0 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (cmpi .slt (res_main_while0b_v9 V0) (broadcastInDim S16x1x1 ![] bcast_S_S16x1x1 (constantI S_ 32 0#32)) : (Proc.devRef .tc main_while0b_call0_v1 : DevRef τ sig).ty.Contents (Elt F)) = Cert.ReferenceIdeal.Step.b5 j s := by
  unfold Cert.ReferenceIdeal.Step.b5
  rw [← al_2 h, ← al_4 h]
  try rfl
set_option maxRecDepth 8192 in
theorem al_6 (h : Holds V0 s j) : (constantI S_ 32 8192#32 : (Proc.devRef .tc main_while0b_call0_c_0 : DevRef τ sig).ty.Contents (Elt F)) = Cert.ReferenceIdeal.Step.b6 j s := by
  unfold Cert.ReferenceIdeal.Step.b6
  rfl
set_option maxRecDepth 8192 in
theorem al_7 (h : Holds V0 s j) : (broadcastInDim S16x1x1 ![] bcast_S_S16x1x1 (constantI S_ 32 8192#32) : (Proc.devRef .tc main_while0b_call0_v2 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (addi (res_main_while0b_v9 V0) (broadcastInDim S16x1x1 ![] bcast_S_S16x1x1 (constantI S_ 32 8192#32)) : (Proc.devRef .tc main_while0b_call0_v3 : DevRef τ sig).ty.Contents (Elt F)) = Cert.ReferenceIdeal.Step.b8 j s := by
  unfold Cert.ReferenceIdeal.Step.b8
  rw [← al_2 h, ← al_7 h]
  try rfl
set_option maxRecDepth 8192 in
theorem al_9 (h : Holds V0 s j) : (res_main_while0b_call0_v4 V0 : (Proc.devRef .tc main_while0b_call0_v4 : DevRef τ sig).ty.Contents (Elt F)) = Cert.ReferenceIdeal.Step.b9 j s := by
  unfold res_main_while0b_call0_v4 Cert.ReferenceIdeal.Step.b9
  rw [← al_5 h, ← al_8 h, ← al_2 h]
  try rfl
set_option maxRecDepth 8192 in
theorem al_10 (h : Holds V0 s j) : (constantI S1 32 8191#32 : (Proc.devRef .tc main_while0b_call0_c_1 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call0_c_2 : DevRef τ sig).ty.Contents (Elt F)) = Cert.ReferenceIdeal.Step.b11 j s := by
  unfold Cert.ReferenceIdeal.Step.b11
  rfl
set_option maxRecDepth 8192 in
theorem al_12 (h : Holds V0 s j) : (broadcastInDim S16x1x1 ![] bcast_S_S16x1x1 (constantI S_ 32 0#32) : (Proc.devRef .tc main_while0b_call0_v5 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (cmpi .sge (res_main_while0b_call0_v4 V0) (broadcastInDim S16x1x1 ![] bcast_S_S16x1x1 (constantI S_ 32 0#32)) : (Proc.devRef .tc main_while0b_call0_v6 : DevRef τ sig).ty.Contents (Elt F)) = Cert.ReferenceIdeal.Step.b13 j s := by
  unfold Cert.ReferenceIdeal.Step.b13
  rw [← al_9 h, ← al_12 h]
  try rfl
set_option maxRecDepth 8192 in
theorem al_14 (h : Holds V0 s j) : (broadcastInDim S1x1x1 ![2] bcast_S1_S1x1x1_2 (constantI S1 32 8191#32) : (Proc.devRef .tc main_while0b_call0_v7 : DevRef τ sig).ty.Contents (Elt F)) = Cert.ReferenceIdeal.Step.b14 j s := by
  unfold Cert.ReferenceIdeal.Step.b14
  rw [← al_10 h]
  try rfl
set_option maxRecDepth 8192 in
theorem al_15 (h : Holds V0 s j) : (broadcastInDim S16x1x1 ![0, 1, 2] bcast_S1x1x1_S16x1x1_0_1_2 (broadcastInDim S1x1x1 ![2] bcast_S1_S1x1x1_2 (constantI S1 32 8191#32)) : (Proc.devRef .tc main_while0b_call0_v8 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (cmpi .sle (res_main_while0b_call0_v4 V0) (broadcastInDim S16x1x1 ![0, 1, 2] bcast_S1x1x1_S16x1x1_0_1_2 (broadcastInDim S1x1x1 ![2] bcast_S1_S1x1x1_2 (constantI S1 32 8191#32))) : (Proc.devRef .tc main_while0b_call0_v9 : DevRef τ sig).ty.Contents (Elt F)) = Cert.ReferenceIdeal.Step.b16 j s := by
  unfold Cert.ReferenceIdeal.Step.b16
  rw [← al_9 h, ← al_15 h]
  try rfl
set_option maxRecDepth 8192 in
theorem al_17 (h : Holds V0 s j) : (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32)))) : (Proc.devRef .tc main_while0b_call0_v10 : DevRef τ sig).ty.Contents (Elt F)) = Cert.ReferenceIdeal.Step.b17 j s := by
  unfold Cert.ReferenceIdeal.Step.b17
  rw [← al_13 h, ← al_16 h]
  try rfl
set_option maxRecDepth 8192 in
theorem al_18 (h : Holds V0 s j) : (constantI S_ 1 1#1 : (Proc.devRef .tc main_while0b_call0_c_3 : DevRef τ sig).ty.Contents (Elt F)) = Cert.ReferenceIdeal.Step.b18 j s := by
  unfold Cert.ReferenceIdeal.Step.b18
  rfl
set_option maxRecDepth 8192 in
theorem al_19 (h : Holds V0 s j) : (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_ : (Proc.devRef .tc main_while0b_call0_v11 : DevRef τ sig).ty.Contents (Elt F)) = Cert.ReferenceIdeal.Step.b19 j s := by
  unfold Cert.ReferenceIdeal.Step.b19
  rw [← al_17 h, ← al_18 h]
  try rfl
set_option maxRecDepth 8192 in
theorem al_20 (h : Holds V0 s j) : (Host.gather gather_S16x8192x3_S16x1x1_S16x1x3_2_1_0_0_1_2_113 (V0 (Proc.devRef .tc main_v3_0)) (res_main_while0b_call0_v4 V0) : (Proc.devRef .tc main_while0b_call0_v12 : DevRef τ sig).ty.Contents (Elt F)) = Cert.ReferenceIdeal.Step.b20 j s := by
  unfold Cert.ReferenceIdeal.Step.b20
  rw [← al_9 h, h.f_0]
  try rfl
set_option maxRecDepth 8192 in
theorem al_21 (h : Holds V0 s j) : (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_) : (Proc.devRef .tc main_while0b_call0_v13 : DevRef τ sig).ty.Contents (Elt F)) = Cert.ReferenceIdeal.Step.b21 j s := by
  unfold Cert.ReferenceIdeal.Step.b21
  rw [← al_19 h]
  try rfl
set_option maxRecDepth 8192 in
theorem al_22 (h : Holds V0 s j) : (constant S_ .f32 0x7FC00000#32 : (Proc.devRef .tc main_while0b_call0_cst : DevRef τ sig).ty.Contents (Elt F)) = Cert.ReferenceIdeal.Step.b22 j s := by
  unfold Cert.ReferenceIdeal.Step.b22
  rfl
set_option maxRecDepth 8192 in
theorem al_23 (h : Holds V0 s j) : (broadcastInDim S16x1x3 ![] bcast_S_S16x1x3 (constant S_ .f32 0x7FC00000#32) : (Proc.devRef .tc main_while0b_call0_v14 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (select (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_)) (Host.gather gather_S16x8192x3_S16x1x1_S16x1x3_2_1_0_0_1_2_113 (V0 (Proc.devRef .tc main_v3_0)) (res_main_while0b_call0_v4 V0)) (broadcastInDim S16x1x3 ![] bcast_S_S16x1x3 (constant S_ .f32 0x7FC00000#32)) : (Proc.devRef .tc main_while0b_v10 : DevRef τ sig).ty.Contents (Elt F)) = Cert.ReferenceIdeal.Step.b24 j s := by
  unfold Cert.ReferenceIdeal.Step.b24
  rw [← al_21 h, ← al_20 h, ← al_23 h]
  try rfl
set_option maxRecDepth 8192 in
theorem al_25 (h : Holds V0 s j) : (broadcastInDim S16x8192x3 ![0, 1, 2] bcast_S16x1x3_S16x8192x3_0_1_2 (select (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_)) (Host.gather gather_S16x8192x3_S16x1x1_S16x1x3_2_1_0_0_1_2_113 (V0 (Proc.devRef .tc main_v3_0)) (res_main_while0b_call0_v4 V0)) (broadcastInDim S16x1x3 ![] bcast_S_S16x1x3 (constant S_ .f32 0x7FC00000#32))) : (Proc.devRef .tc main_while0b_v11 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v12 V0 : (Proc.devRef .tc main_while0b_v12 : DevRef τ sig).ty.Contents (Elt F)) = Cert.ReferenceIdeal.Step.b26 j s := by
  unfold res_main_while0b_v12 Cert.ReferenceIdeal.Step.b26
  rw [← al_25 h, h.f_0]
  try rfl
set_option maxRecDepth 8192 in
theorem al_27 (h : Holds V0 s j) : (mulf (res_main_while0b_v12 V0) (res_main_while0b_v12 V0) : (Proc.devRef .tc main_while0b_v13 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_cst_9 : DevRef τ sig).ty.Contents (Elt F)) = Cert.ReferenceIdeal.Step.b28 j s := by
  unfold Cert.ReferenceIdeal.Step.b28
  rfl
set_option maxRecDepth 8192 in
theorem al_29 (h : Holds V0 s j) : (Host.reduceAdd (mulf (res_main_while0b_v12 V0) (res_main_while0b_v12 V0)) (constant S_ .f32 0x00000000#32) reducesTo_S16x8192x3_S16x8192_d2 h_S_ : (Proc.devRef .tc main_while0b_v14 : DevRef τ sig).ty.Contents (Elt F)) = Cert.ReferenceIdeal.Step.b29 j s := by
  unfold Cert.ReferenceIdeal.Step.b29
  rw [← al_27 h, ← al_28 h]
  try rfl
set_option maxRecDepth 8192 in
theorem al_30 (h : Holds V0 s j) : (res_main_while0b_v15 V0 : (Proc.devRef .tc main_while0b_v15 : DevRef τ sig).ty.Contents (Elt F)) = Cert.ReferenceIdeal.Step.b30 j s := by
  unfold res_main_while0b_v15 Cert.ReferenceIdeal.Step.b30
  rw [← al_29 h, h.f_5]
  try rfl
set_option maxRecDepth 8192 in
theorem al_31 (h : Holds V0 s j) : (res_main_while0b_v16 V0 : (Proc.devRef .tc main_while0b_v16 : DevRef τ sig).ty.Contents (Elt F)) = Cert.ReferenceIdeal.Step.b31 j s := by
  unfold res_main_while0b_v16 Cert.ReferenceIdeal.Step.b31
  rw [← al_30 h]
  try rfl
set_option maxRecDepth 8192 in
theorem al_32 (h : Holds V0 s j) : (res_main_while0b_call2_v0 V0 : (Proc.devRef .tc main_while0b_call2_v0 : DevRef τ sig).ty.Contents (Elt F)) = Cert.ReferenceIdeal.Step.b32 j s := by
  unfold res_main_while0b_call2_v0 Cert.ReferenceIdeal.Step.b32
  rfl
set_option maxRecDepth 8192 in
theorem al_33 (h : Holds V0 s j) : (res_main_while0b_call2_cst V0 : (Proc.devRef .tc main_while0b_call2_cst : DevRef τ sig).ty.Contents (Elt F)) = Cert.ReferenceIdeal.Step.b33 j s := by
  unfold res_main_while0b_call2_cst Cert.ReferenceIdeal.Step.b33
  rfl
set_option maxRecDepth 8192 in
theorem al_34 (h : Holds V0 s j) : (res_main_while0b_call2_c V0 : (Proc.devRef .tc main_while0b_call2_c : DevRef τ sig).ty.Contents (Elt F)) = Cert.ReferenceIdeal.Step.b34 j s := by
  unfold res_main_while0b_call2_c Cert.ReferenceIdeal.Step.b34
  rfl
set_option maxRecDepth 8192 in
theorem al_35 (h : Holds V0 s j) : ((fun jj => (Host.argReduce reducer_argmax_f32_i32 (res_main_while0b_v16 V0) (res_main_while0b_call2_v0 V0) (res_main_while0b_call2_cst V0) (res_main_while0b_call2_c V0) reducesTo_S16x8192_S16_d1 h_S_ jj).1) : (Proc.devRef .tc main_while0b_call2_v1_0 : DevRef τ sig).ty.Contents (Elt F)) = Cert.ReferenceIdeal.Step.b35 j s := by
  unfold Cert.ReferenceIdeal.Step.b35
  rw [← al_31 h, ← al_32 h, ← al_33 h, ← al_34 h]
  try rfl
set_option maxRecDepth 8192 in
theorem al_36 (h : Holds V0 s j) : ((fun jj => (Host.argReduce reducer_argmax_f32_i32 (res_main_while0b_v16 V0) (res_main_while0b_call2_v0 V0) (res_main_while0b_call2_cst V0) (res_main_while0b_call2_c V0) reducesTo_S16x8192_S16_d1 h_S_ jj).2) : (Proc.devRef .tc main_while0b_v17 : DevRef τ sig).ty.Contents (Elt F)) = Cert.ReferenceIdeal.Step.b36 j s := by
  unfold Cert.ReferenceIdeal.Step.b36
  rw [← al_31 h, ← al_32 h, ← al_33 h, ← al_34 h]
  try rfl
set_option maxRecDepth 8192 in
theorem al_37 (h : Holds V0 s j) : (broadcastInDim S16x1 ![0] bcast_S16_S16x1_0 ((fun jj => (Host.argReduce reducer_argmax_f32_i32 (res_main_while0b_v16 V0) (res_main_while0b_call2_v0 V0) (res_main_while0b_call2_cst V0) (res_main_while0b_call2_c V0) reducesTo_S16x8192_S16_d1 h_S_ jj).2)) : (Proc.devRef .tc main_while0b_v18 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constantI S_ 32 8191#32 : (Proc.devRef .tc main_while0b_c_10 : DevRef τ sig).ty.Contents (Elt F)) = Cert.ReferenceIdeal.Step.b38 j s := by
  unfold Cert.ReferenceIdeal.Step.b38
  rfl
set_option maxRecDepth 8192 in
theorem al_39 (h : Holds V0 s j) : (broadcastInDim S16x1 ![] bcast_S_S16x1 (constantI S_ 32 8191#32) : (Proc.devRef .tc main_while0b_v19 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (res_main_while0b_v20 V0 : (Proc.devRef .tc main_while0b_v20 : DevRef τ sig).ty.Contents (Elt F)) = Cert.ReferenceIdeal.Step.b40 j s := by
  unfold res_main_while0b_v20 Cert.ReferenceIdeal.Step.b40
  rw [← al_39 h, ← al_37 h]
  try rfl
set_option maxRecDepth 8192 in
theorem al_41 (h : Holds V0 s j) : (constantI S_ 32 0#32 : (Proc.devRef .tc main_while0b_c_11 : DevRef τ sig).ty.Contents (Elt F)) = Cert.ReferenceIdeal.Step.b41 j s := by
  unfold Cert.ReferenceIdeal.Step.b41
  rfl
set_option maxRecDepth 8192 in
theorem al_42 (h : Holds V0 s j) : (cmpi .slt (V0 (Proc.devRef .tc main_v3_2)) (constantI S_ 32 0#32) : (Proc.devRef .tc main_while0b_v21 : DevRef τ sig).ty.Contents (Elt F)) = Cert.ReferenceIdeal.Step.b42 j s := by
  unfold Cert.ReferenceIdeal.Step.b42
  rw [← al_41 h, h.f_2]
  try rfl
set_option maxRecDepth 8192 in
theorem al_43 (h : Holds V0 s j) : (id (V0 (Proc.devRef .tc main_v3_2)) : (Proc.devRef .tc main_while0b_v22 : DevRef τ sig).ty.Contents (Elt F)) = Cert.ReferenceIdeal.Step.b43 j s := by
  unfold Cert.ReferenceIdeal.Step.b43
  rw [h.f_2]
  try rfl
set_option maxRecDepth 8192 in
theorem al_44 (h : Holds V0 s j) : (constantI S_ 32 512#32 : (Proc.devRef .tc main_while0b_c_12 : DevRef τ sig).ty.Contents (Elt F)) = Cert.ReferenceIdeal.Step.b44 j s := by
  unfold Cert.ReferenceIdeal.Step.b44
  rfl
set_option maxRecDepth 8192 in
theorem al_45 (h : Holds V0 s j) : (addi (id (V0 (Proc.devRef .tc main_v3_2))) (constantI S_ 32 512#32) : (Proc.devRef .tc main_while0b_v23 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (select (cmpi .slt (V0 (Proc.devRef .tc main_v3_2)) (constantI S_ 32 0#32)) (addi (id (V0 (Proc.devRef .tc main_v3_2))) (constantI S_ 32 512#32)) (V0 (Proc.devRef .tc main_v3_2)) : (Proc.devRef .tc main_while0b_v24 : DevRef τ sig).ty.Contents (Elt F)) = Cert.ReferenceIdeal.Step.b46 j s := by
  unfold Cert.ReferenceIdeal.Step.b46
  rw [← al_42 h, ← al_45 h, h.f_2]
  try rfl
set_option maxRecDepth 8192 in
theorem al_47 (h : Holds V0 s j) : (constantI S_ 32 0#32 : (Proc.devRef .tc main_while0b_c_13 : DevRef τ sig).ty.Contents (Elt F)) = Cert.ReferenceIdeal.Step.b47 j s := by
  unfold Cert.ReferenceIdeal.Step.b47
  rfl
set_option maxRecDepth 8192 in
theorem al_48 (h : Holds V0 s j) : (Host.dynamicUpdateSlice (V0 (Proc.devRef .tc main_v3_3)) (res_main_while0b_v20 V0) (fun k => (((![constantI S_ 32 0#32, select (cmpi .slt (V0 (Proc.devRef .tc main_v3_2)) (constantI S_ 32 0#32)) (addi (id (V0 (Proc.devRef .tc main_v3_2))) (constantI S_ 32 512#32)) (V0 (Proc.devRef .tc main_v3_2))] : Fin 2 → (⟨S_, .i32⟩ : BufTy).Contents (Elt F))) k (Shape.Idx.first h_S_)).toInt) updateFits_S16x512_S16x1 : (Proc.devRef .tc main_while0b_v25 : DevRef τ sig).ty.Contents (Elt F)) = Cert.ReferenceIdeal.Step.b48 j s := by
  unfold Cert.ReferenceIdeal.Step.b48
  rw [← al_40 h, ← al_47 h, ← al_46 h, h.f_3]
  try rfl

/-! One trip's step of the carried values is `step`, field by field; a counter steps to the next number. -/

theorem step_2 (h : Holds V0 s j) : step_main_v3_2 V0 = (step j s).main_v3_2 := by
  unfold step_main_v3_2 Cert.ReferenceIdeal.Step.step
  show id (addi (V0 (Proc.devRef .tc main_v3_2)) (constantI S_ 32 1#32)) = _
  rw [al_1 h]
  try rfl
theorem step_3 (h : Holds V0 s j) : step_main_v3_3 V0 = (step j s).main_v3_3 := by
  unfold step_main_v3_3 Cert.ReferenceIdeal.Step.step
  show id (Host.dynamicUpdateSlice (V0 (Proc.devRef .tc main_v3_3)) (res_main_while0b_v20 V0) (fun k => (((![constantI S_ 32 0#32, select (cmpi .slt (V0 (Proc.devRef .tc main_v3_2)) (constantI S_ 32 0#32)) (addi (id (V0 (Proc.devRef .tc main_v3_2))) (constantI S_ 32 512#32)) (V0 (Proc.devRef .tc main_v3_2))] : Fin 2 → (⟨S_, .i32⟩ : BufTy).Contents (Elt F))) k (Shape.Idx.first h_S_)).toInt) updateFits_S16x512_S16x1) = _
  exact al_48 h
theorem step_4 (h : Holds V0 s j) : step_main_v3_4 V0 = (step j s).main_v3_4 := by
  unfold step_main_v3_4 Cert.ReferenceIdeal.Step.step
  show id (res_main_while0b_v20 V0) = _
  rw [al_40 h]
  try rfl
theorem step_5 (h : Holds V0 s j) : step_main_v3_5 V0 = (step j s).main_v3_5 := by
  unfold step_main_v3_5 Cert.ReferenceIdeal.Step.step
  show id (res_main_while0b_v15 V0) = _
  rw [al_30 h]
  try rfl
theorem step_1 (h : Holds V0 s j) : step_main_v3_1 V0 = constantI S_ 32 (BitVec.ofNat 32 (j + 1)) := by
  unfold step_main_v3_1
  rw [h.n_1]
  funext i
  show BitVec.ofNat 32 j + 1#32 = BitVec.ofNat 32 (j + 1)
  simp only [BitVec.ofNat_add]

set_option maxRecDepth 8192 in
theorem out_main_v5_holds (h : Holds V0 s j) {x_main_arg0 : (⟨S16x8192x3, .f32⟩ : BufTy).Contents (Elt F)} (h_main_arg0 : V0 (Proc.devRef .tc main_arg0) = x_main_arg0) : out_main_v5 V0 = Cert.ReferenceIdeal.Step.R_main_v5 s x_main_arg0 := by
  unfold out_main_v5 Cert.ReferenceIdeal.Step.R_main_v5
  rw [h.f_3, h_main_arg0]
  try rfl

set_option maxRecDepth 8192 in
theorem out_main_v7_holds (h : Holds V0 s j) {x_main_arg1 : (⟨S16x8192x128, .f32⟩ : BufTy).Contents (Elt F)} (h_main_arg1 : V0 (Proc.devRef .tc main_arg1) = x_main_arg1) : out_main_v7 V0 = Cert.ReferenceIdeal.Step.R_main_v7 s x_main_arg1 := by
  unfold out_main_v7 Cert.ReferenceIdeal.Step.R_main_v7
  rw [h.f_3, h_main_arg1]
  try rfl

/-- One trip keeps the valuation holding: `step` of the state, the same set-up values, the next number. -/
theorem holds_step (h : Holds V0 s j) : Holds (STEP V0) (step j s) (j + 1) where
  f_2 := (STEP_main_v3_2 V0).trans (step_2 h)
  f_3 := (STEP_main_v3_3 V0).trans (step_3 h)
  f_4 := (STEP_main_v3_4 V0).trans (step_4 h)
  f_5 := (STEP_main_v3_5 V0).trans (step_5 h)
  n_1 := (STEP_main_v3_1 V0).trans (step_1 h)
  f_0 := (STEP_main_v3_0 V0).trans h.f_0

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 511 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v5) = Cert.ReferenceIdeal.Step.R_main_v5 (it c 511) (m ((c.tc : Thread nD τ).loc main_arg0))
      ∧ r.2.mem ((c.tc : Thread nD τ).loc main_v7) = Cert.ReferenceIdeal.Step.R_main_v7 (it c 511) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 511
    ⟨(h c).1.trans (out_main_v5_holds hk (iter_main_arg0 m c 511)), (h c).2.1.trans (out_main_v7_holds hk (iter_main_arg1 m c 511)), (h c).2.2.1, (h c).2.2.2⟩) (Value.run m ρ)

end Cert.ReferenceIdeal.StepRun

end
-- ==== Proof.TopkRun.lean ====
/-
  The top-k call runs: its second loop by the carried values before each trip, the body at a grid point, the launch, and the
  argument arrays unchanged.
-/
module

public import proofs.«01_k».proof.Proof.Gen.Kernel2Ideal.Frame
public import proofs.«01_k».proof.Proof.Gen.Kernel2Ideal.Loops
public import proofs.«01_k».proof.Proof.Gen.Kernel2Ideal.Points
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second loop -/

/-- What the second loop carries: the five slots' distances, and the indices found so far. -/
abbrev Picks (F : FTy → Type) : Type := FVec F S16x128 .f32 × FVec F S16x128 .f32 × FVec F S16x128 .f32 × FVec F S16x128 .f32 × FVec F S16x128 .f32 × IVec S16x16 32

/-- One trip of the second loop. -/
def pick (s5 s6 s7 s8 s9 : IVec S16x128 32) (cols : IVec S16x16 32) (top : F .f32) (k : Fin k0_t2_loop.trips) (a : Picks F) : Picks F :=
  (k0_pay4 s5 s6 s7 s8 s9 1073741824#32 top a.1 a.2.1 a.2.2.1 a.2.2.2.1 a.2.2.2.2.1,
   k0_pay5 s5 s6 s7 s8 s9 1073741824#32 top a.1 a.2.1 a.2.2.1 a.2.2.2.1 a.2.2.2.2.1,
   k0_pay6 s5 s6 s7 s8 s9 1073741824#32 top a.1 a.2.1 a.2.2.1 a.2.2.2.1 a.2.2.2.2.1,
   k0_pay7 s5 s6 s7 s8 s9 1073741824#32 top a.1 a.2.1 a.2.2.1 a.2.2.2.1 a.2.2.2.2.1,
   k0_pay44 a.2.2.2.2.1 (k0_pay8 s5 s6 s7 s8 s9 1073741824#32 a.1 a.2.1 a.2.2.1 a.2.2.2.1 a.2.2.2.2.1),
   k0_pay3 s5 s6 s7 s8 s9 cols 1073741824#32 0#32 1#32 k a.1 a.2.1 a.2.2.1 a.2.2.2.1 a.2.2.2.2.1 a.2.2.2.2.2)

/-- What the second loop carries before trip `k`. -/
def picks (s5 s6 s7 s8 s9 : IVec S16x128 32) (cols : IVec S16x16 32) (top : F .f32) (init : Picks F) : ℕ → Picks F
  | 0 => init
  | k + 1 => if h : k < k0_t2_loop.trips then pick s5 s6 s7 s8 s9 cols top ⟨k, h⟩ (picks s5 s6 s7 s8 s9 cols top init k)
      else picks s5 s6 s7 s8 s9 cols top init k

theorem picks_succ (s5 s6 s7 s8 s9 : IVec S16x128 32) (cols : IVec S16x16 32) (top : F .f32) (init : Picks F) (k : Fin k0_t2_loop.trips) :
    picks s5 s6 s7 s8 s9 cols top init (k.val + 1) = pick s5 s6 s7 s8 s9 cols top k (picks s5 s6 s7 s8 s9 cols top init k.val) := by
  rw [picks]; exact dif_pos k.isLt

set_option warn.classDefReducibility false in
/-- The second loop, by the values it carries. -/
@[sl_loop] def loopInv_k0_t2 (𝒱 : Variants) (c : Dev nD) (bd : Option 𝒱.V) (E : Set ℕ) (i : grid0.Coords) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x1x16x1 .f32) (harg5 : arg5.IsWhole) (arg6 : Memref sig .tc .vmem S1x1x16x1 .f32) (harg6 : arg6.IsWhole) (arg7 : Memref sig .tc .vmem S1x1x16x1 .f32) (harg7 : arg7.IsWhole) (arg8 : Memref sig .tc .vmem S1x1x16x16 .i32) (harg8 : arg8.IsWhole)
    (s5 s6 s7 s8 s9 : IVec S16x128 32) (cols : IVec S16x16 32) (top : F .f32) (init : Picks F) :
    LoopInvTy_k0_t2 (F := F) Unit ℕ (UR sig nD τ) ℕ 𝒱 c bd E i arg2 harg2 arg3 harg3 arg4 harg4 arg5 harg5 arg6 harg6 arg7 harg7 arg8 harg8 s5 s6 s7 s8 s9 cols top init where
  inv k a := iprop(⌜a = picks s5 s6 s7 s8 s9 cols top init k⌝)
  step k a := by
    iintro %h
    subst h
    rw [picks_succ]
    unfold k0_t2_body
    simp only [k0_part1_eq_skeleton]
    unfold k0_part1_skel
    sl_exec
    sl_step
    ipureintro
    rfl

variable (m : (ℓ : Loc nD τ sig) → Buf (Elt F) ℓ) (ρ : Dev nD → PrngReg)

/-! ## The body -/

set_option maxHeartbeats 1000000 in
/-- What the body stores in its output, with the proof that it runs, its inputs' buffers unchanged. -/
noncomputable def kernelRun (c : Dev nD) (i : grid0.Coords) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x1x16x1 .f32) (harg5 : arg5.IsWhole) (arg6 : Memref sig .tc .vmem S1x1x16x1 .f32) (harg6 : arg6.IsWhole) (arg7 : Memref sig .tc .vmem S1x1x16x1 .f32) (harg7 : arg7.IsWhole) (arg8 : Memref sig .tc .vmem S1x1x16x16 .i32) (harg8 : arg8.IsWhole) (x0 : Vec F S1x64x128 .f32) (x1 : Vec F S1x64x128 .f32) (x2 : Vec F S1x64x128 .f32) (x3 : Vec F S1x1x16x1 .f32) (x4 : Vec F S1x1x16x1 .f32) (x5 : Vec F S1x1x16x1 .f32) :
    { L6 : List (View.Piece (Elt F) S1x1x16x16 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__topk_body i arg2 harg2 arg3 harg3 arg4 harg4 arg5 harg5 arg6 harg6 arg7 harg7 arg8 harg8) K } := by
  refine ⟨?_, fun E K => ?run⟩
  case run =>
    simp only [cc0__topk_body_eq_skeleton]; unfold cc0__topk_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The stores cover the output's block. -/
theorem cover (c : Dev nD) (i : grid0.Coords) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x1x16x1 .f32) (harg5 : arg5.IsWhole) (arg6 : Memref sig .tc .vmem S1x1x16x1 .f32) (harg6 : arg6.IsWhole) (arg7 : Memref sig .tc .vmem S1x1x16x1 .f32) (harg7 : arg7.IsWhole) (arg8 : Memref sig .tc .vmem S1x1x16x16 .i32) (harg8 : arg8.IsWhole) (x0 : Vec F S1x64x128 .f32) (x1 : Vec F S1x64x128 .f32) (x2 : Vec F S1x64x128 .f32) (x3 : Vec F S1x1x16x1 .f32) (x4 : Vec F S1x1x16x1 .f32) (x5 : Vec F S1x1x16x1 .f32) (y : S1x1x16x16.Idx) :
    ∃ pc ∈ (kernelRun c i arg2 harg2 arg3 harg3 arg4 harg4 arg5 harg5 arg6 harg6 arg7 harg7 arg8 harg8 x0 x1 x2 x3 x4 x5).1, y ∈ pc.1.set :=
  View.cover_of_tiledL (kernelRun c i arg2 harg2 arg3 harg3 arg4 harg4 arg5 harg5 arg6 harg6 arg7 harg7 arg8 harg8 x0 x1 x2 x3 x4 x5).1 S1x1x16x16.size (by sl_kernel_rfl) y

/-- One staging buffer of the output. -/
abbrev VO : View sig .tc .vmem S1x1x16x16 .i32 := (Memref.whole cc0_stg6_0 : Memref sig .tc .vmem S1x1x16x16 .i32).view

/-- What the body leaves in the output's staging buffer. -/
def out (c : Dev nD) (i : grid0.Coords) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x1x16x1 .f32) (harg5 : arg5.IsWhole) (arg6 : Memref sig .tc .vmem S1x1x16x1 .f32) (harg6 : arg6.IsWhole) (arg7 : Memref sig .tc .vmem S1x1x16x1 .f32) (harg7 : arg7.IsWhole) (arg8 : Memref sig .tc .vmem S1x1x16x16 .i32) (harg8 : arg8.IsWhole) (x0 : Vec F S1x64x128 .f32) (x1 : Vec F S1x64x128 .f32) (x2 : Vec F S1x64x128 .f32) (x3 : Vec F S1x1x16x1 .f32) (x4 : Vec F S1x1x16x1 .f32) (x5 : Vec F S1x1x16x1 .f32) : Vec F S1x1x16x16 .i32 :=
  VO.read (Elt F) (VO.writes (Elt F) VO.junk (kernelRun c i arg2 harg2 arg3 harg3 arg4 harg4 arg5 harg5 arg6 harg6 arg7 harg7 arg8 harg8 x0 x1 x2 x3 x4 x5).1)

abbrev ms0 (t : Fin cfg0.N) : Memref sig .tc .vmem S1x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x16x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x16x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x16x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x16x16 .i32 := win0_6.stage (cfg0.slots t 6)
abbrev hs6 (t : Fin cfg0.N) : (ms6 t).IsWhole := hstage0_6 ((cfg0.slots t 6).cast nbuf0_6)

/-- What the output's staging buffer holds after the body at point `t`. -/
def outAt (c : Dev nD) (t : Fin cfg0.N) : Vec F S1x1x16x16 .i32 := out c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (iblk m c 4 t) (iblk m c 5 t)

/-! ## The launch -/

/-- The pipeline's proof data: the arrays as the launch finds them; after the body each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  unfold outAt out
  iintro ⟨Hg, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data say, every other buffer as the later host lines leave it, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel2Ideal.Run

end
-- ==== Proof.Nearest.lean ====
/-
  The nearest points of one sample, in plain terms: five slots that keep the smallest values met, and the points in order of
  distance, ties by the smaller position.
-/
module

public import proofs.«01_k».proof.Proof.Fps

@[expose] public section

noncomputable section

namespace Cert.Nearest

open Idealize.ShloMosaic

/-- A value with the word of its position. -/
abbrev Entry : Type := EReal × BitVec 32

/-- The word an empty slot holds. -/
abbrev big : BitVec 32 := 1073741824#32

/-- The slots after a candidate passes along them: each keeps the smaller of itself and what comes, and hands the other on. -/
def put : List Entry → Entry → List Entry
  | [], _ => []
  | s :: ss, c => (if c.1 < s.1 then c.1 else s.1, if c.1 < s.1 then c.2 else s.2)
      :: put ss (if c.1 < s.1 then s.1 else c.1, if c.1 < s.1 then s.2 else c.2)

/-- What the last slot hands on. -/
def rest : List Entry → Entry → Entry
  | [], c => c
  | s :: ss, c => rest ss (if c.1 < s.1 then s.1 else c.1, if c.1 < s.1 then s.2 else c.2)

theorem length_put (S : List Entry) (c : Entry) : (put S c).length = S.length := by
  induction S generalizing c with
  | nil => rfl
  | cons s ss ih => simp only [put, List.length_cons, ih]

theorem put_perm (S : List Entry) (c : Entry) : (put S c ++ [rest S c]).Perm (c :: S) := by
  induction S generalizing c with
  | nil => exact List.Perm.refl _
  | cons s ss ih =>
    simp only [put, rest, List.cons_append]
    by_cases h : c.1 < s.1
    · simp only [h, if_true]
      exact (List.Perm.cons c (ih s))
    · simp only [h, if_false]
      exact (List.Perm.cons s (ih c)).trans (List.Perm.swap c s ss)

theorem le_rest (S : List Entry) (c : Entry) : c.1 ≤ (rest S c).1 ∧ ∀ s ∈ put S c, s.1 ≤ (rest S c).1 := by
  induction S generalizing c with
  | nil => exact ⟨le_refl _, by simp [put]⟩
  | cons s ss ih =>
    simp only [put, rest, List.mem_cons, forall_eq_or_imp]
    by_cases h : c.1 < s.1
    · simp only [h, if_true]
      have := ih s
      exact ⟨h.le.trans this.1, h.le.trans this.1, this.2⟩
    · simp only [h, if_false]
      have := ih c
      exact ⟨this.1, (not_lt.mp h).trans this.1, this.2⟩

theorem put_le (S : List Entry) (c : Entry) : ∀ s ∈ put S c, ∃ s' ∈ S, s.1 ≤ s'.1 := by
  induction S generalizing c with
  | nil => simp [put]
  | cons s ss ih =>
    intro e he
    simp only [put, List.mem_cons] at he
    rcases he with rfl | he
    · refine ⟨s, by simp, ?_⟩
      by_cases h : c.1 < s.1
      · simp only [h, if_true]; exact h.le
      · simp only [h, if_false]; exact le_refl _
    · obtain ⟨s', hs', hle⟩ := ih _ e he
      exact ⟨s', List.mem_cons_of_mem _ hs', hle⟩

/-- The slots after a list of candidates. -/
def slots (L : List Entry) : List Entry := L.foldl put (List.replicate 5 (⊤, big))

theorem slots_concat (L : List Entry) (c : Entry) : slots (L ++ [c]) = put (slots L) c := by
  simp [slots, List.foldl_append]

theorem length_slots (L : List Entry) : (slots L).length = 5 := by
  induction L using List.reverseRecOn with
  | nil => rfl
  | append_singleton L c ih => rw [slots_concat, length_put, ih]

/-- With the candidates not kept, the slots are the empty slots and the candidates; and nothing kept exceeds anything not kept. -/
theorem slots_perm (L : List Entry) :
    ∃ D, (slots L ++ D).Perm (List.replicate 5 (⊤, big) ++ L) ∧ ∀ s ∈ slots L, ∀ e ∈ D, s.1 ≤ e.1 := by
  induction L using List.reverseRecOn with
  | nil => exact ⟨[], by simp [slots], by simp⟩
  | append_singleton L c ih =>
    obtain ⟨D, hp, hle⟩ := ih
    refine ⟨rest (slots L) c :: D, ?_, ?_⟩
    · rw [slots_concat]
      have h1 : (put (slots L) c ++ rest (slots L) c :: D).Perm ((c :: slots L) ++ D) := by
        have := (put_perm (slots L) c).append_right D
        simpa using this
      refine h1.trans ?_
      have h2 : (c :: (slots L ++ D)).Perm (c :: (List.replicate 5 (⊤, big) ++ L)) := List.Perm.cons c hp
      refine (List.Perm.trans ?_ h2).trans ?_
      · exact List.Perm.refl _
      · have h3 : ((List.replicate 5 ((⊤ : EReal), big) ++ L) ++ [c]).Perm ([c] ++ (List.replicate 5 (⊤, big) ++ L)) := List.perm_append_comm
        simpa using h3.symm
    · rw [slots_concat]
      intro s hs e he
      rcases List.mem_cons.mp he with rfl | he
      · exact (le_rest _ _).2 s hs
      · obtain ⟨s', hs', h⟩ := put_le _ _ s hs
        exact h.trans (hle s' hs' e he)

/-- Each slot is empty or a candidate. -/
theorem slots_from (L : List Entry) : ∀ s ∈ slots L, s = (⊤, big) ∨ s ∈ L := by
  intro s hs
  obtain ⟨D, hp, -⟩ := slots_perm L
  have := hp.mem_iff.mp (List.mem_append_left D hs)
  rcases List.mem_append.mp this with h | h
  · exact Or.inl (List.eq_of_mem_replicate h)
  · exact Or.inr h

/-- When at most five candidates are at most `t`, all of those are kept. -/
theorem slots_kept (L : List Entry) (t : EReal) (ht : t < ⊤) (hc : L.countP (fun e => decide (e.1 ≤ t)) ≤ 5) :
    ∀ e ∈ L, e.1 ≤ t → e ∈ slots L := by
  intro e he het
  obtain ⟨D, hp, hle⟩ := slots_perm L
  by_contra hns
  have hD : e ∈ D := by
    rcases List.mem_append.mp (hp.mem_iff.mpr (List.mem_append_right _ he)) with h | h
    · exact absurd h hns
    · exact h
  have hcount := hp.countP_eq (fun e => decide (e.1 ≤ t))
  rw [List.countP_append, List.countP_append] at hcount
  have h1 : (slots L).countP (fun e => decide (e.1 ≤ t)) = 5 := by
    rw [← length_slots L, List.countP_eq_length]
    intro s hs
    exact decide_eq_true ((hle s hs e hD).trans het)
  have h2 : 0 < D.countP (fun e => decide (e.1 ≤ t)) := List.countP_pos_iff.mpr ⟨e, hD, decide_eq_true het⟩
  have h3 : (List.replicate 5 ((⊤, big) : Entry)).countP (fun e => decide (e.1 ≤ t)) = 0 := by
    rw [List.countP_eq_zero]
    intro s hs
    rw [List.eq_of_mem_replicate hs]
    simpa using ht.ne
  rw [h1, h3] at hcount
  omega

/-! ### The points in order -/

/-- `r` lists the first points by distance, ties by the smaller position. -/
structure Sorted (d : Fin 8192 → EReal) (r : Fin 16 → Fin 8192) : Prop where
  inj : Function.Injective r
  le : ∀ (k : Fin 16) (p : Fin 8192), (∀ j, j < k → r j ≠ p) → d (r k) < d p ∨ d (r k) = d p ∧ r k ≤ p

/-- The word of a position. -/
abbrev word (p : Fin 8192) : BitVec 32 := BitVec.ofNat 32 (p : ℕ)

theorem Sorted.mono {d : Fin 8192 → EReal} {r : Fin 16 → Fin 8192} (h : Sorted d r) {j k : Fin 16} (hjk : j ≤ k) : d (r j) ≤ d (r k) := by
  rcases h.le j (r k) (fun i hi he => absurd (h.inj he) (by omega)) with h | h
  · exact h.le
  · exact h.1.le

/-- The point at position `l` of chunk `j`. -/
def pt (j : Fin 64) (l : Fin 128) : Fin 8192 := ⟨(j : ℕ) * 128 + l, by omega⟩

/-- The candidates of lane `l` in order. -/
def lane (d : Fin 8192 → EReal) (l : Fin 128) : List Entry := (List.finRange 64).map fun j => (d (pt j l), word (pt j l))

/-- A slot's value once the first `k` points have been taken. -/
def left (r : Fin 16 → Fin 8192) (k : ℕ) (e : Entry) : EReal := if ∃ j : Fin 16, (j : ℕ) < k ∧ word (r j) = e.2 then ⊤ else e.1

/-- At most five points of a lane are as near as the last of the sixteen, which is at a finite distance. -/
structure Spread (d : Fin 8192 → EReal) (r : Fin 16 → Fin 8192) : Prop where
  fin : d (r 15) < ⊤
  count : ∀ l, (lane d l).countP (fun e => decide (e.1 ≤ d (r 15))) ≤ 5

section

variable {d : Fin 8192 → EReal} {r : Fin 16 → Fin 8192} (hs : Sorted d r) (hp : Spread d r) (k : Fin 16)
include hs hp

theorem dist_lt : d (r k) < ⊤ := (hs.mono (show k ≤ 15 by omega)).trans_lt hp.fin

theorem word_big (p : Fin 8192) : (word p).toInt ≤ big.toInt ∧ word p ≠ big := by
  have := p.isLt
  have e : big.toInt = 1073741824 := by decide
  rw [Fps.toInt_idx, e]
  refine ⟨by omega, fun h => ?_⟩
  have := congrArg BitVec.toInt h
  rw [Fps.toInt_idx, e] at this
  omega

/-- Point `k` is in a slot, and still there, -/
theorem left_mem : ∃ l, ∃ e ∈ slots (lane d l), left r k e = d (r k) ∧ e.2 = word (r k) := by
  have hr := (r k).isLt
  refine ⟨⟨(r k : ℕ) % 128, by omega⟩, (d (r k), word (r k)), ?_, ?_, rfl⟩
  · refine slots_kept _ _ hp.fin (hp.count _) _ ?_ (hs.mono (by omega))
    refine List.mem_map.mpr ⟨⟨(r k : ℕ) / 128, by omega⟩, List.mem_finRange _, ?_⟩
    have : pt ⟨(r k : ℕ) / 128, by omega⟩ ⟨(r k : ℕ) % 128, by omega⟩ = r k := Fin.ext (by simp only [pt]; omega)
    rw [this]
  · refine if_neg ?_
    rintro ⟨j, hj, h⟩
    have := hs.inj (Fps.idx_inj h)
    omega

/-- and no slot is before it. -/
theorem left_le (l : Fin 128) : ∀ e ∈ slots (lane d l), d (r k) ≤ left r k e ∧ (left r k e = d (r k) → (word (r k)).toInt ≤ e.2.toInt) := by
  intro e he
  unfold left
  split
  · exact ⟨le_top, fun h => absurd (dist_lt hs hp k) (by rw [← h]; exact lt_irrefl _)⟩
  · rename_i hn
    rcases slots_from _ e he with rfl | h
    · exact ⟨le_top, fun _ => (word_big hs hp _).1⟩
    · obtain ⟨j, -, rfl⟩ := List.mem_map.mp h
      rcases hs.le k (pt j l) (fun i hi h => hn ⟨i, hi, by rw [h]⟩) with h | h
      · exact ⟨h.le, fun h' => absurd h (not_lt.mpr h'.le)⟩
      · refine ⟨h.1.le, fun _ => ?_⟩
        show (word (r k)).toInt ≤ (word (pt j l)).toInt
        rw [Fps.toInt_idx, Fps.toInt_idx]
        exact_mod_cast h.2

/-- Taking point `k` out of a slot. -/
theorem left_succ (e : Entry) : left r (k + 1) e = if e.2 = word (r k) then ⊤ else left r k e := by
  unfold left
  by_cases h : e.2 = word (r k)
  · rw [if_pos h, if_pos ⟨k, by omega, h.symm⟩]
  · rw [if_neg h]
    have : (∃ j : Fin 16, (j : ℕ) < k + 1 ∧ word (r j) = e.2) ↔ ∃ j : Fin 16, (j : ℕ) < k ∧ word (r j) = e.2 := by
      constructor
      · rintro ⟨j, hj, hw⟩
        refine ⟨j, ?_, hw⟩
        rcases Nat.lt_succ_iff_lt_or_eq.mp hj with h' | h'
        · exact h'
        · exact absurd (by rw [← hw, Fin.ext h']) h
      · rintro ⟨j, hj, hw⟩
        exact ⟨j, by omega, hw⟩
    simp only [this]

end

theorem left_zero (r : Fin 16 → Fin 8192) (e : Entry) : left r 0 e = e.1 := by
  unfold left
  rw [if_neg]
  rintro ⟨j, hj, -⟩
  omega

/-! ### Taking the nearest point out -/

theorem minsi_toInt (a b : BitVec 32) : (IntOp.minsi a b).toInt = min a.toInt b.toInt := by
  unfold IntOp.minsi
  rw [BitVec.slt_eq_decide]
  split <;> rename_i h <;> simp only [decide_eq_true_eq] at h <;> omega

theorem fold_minsi_toInt {ι : Type} (s : Finset ι) (a : BitVec 32) (f : ι → BitVec 32) :
    (s.fold IntOp.minsi a f).toInt = s.fold min a.toInt fun i => (f i).toInt := by
  induction s using Finset.cons_induction with
  | empty => simp
  | cons i s hi ih => rw [Finset.fold_cons, Finset.fold_cons, minsi_toInt, ih]

/-- The least of five values in every lane. -/
def least (a0 a1 a2 a3 a4 : Fin 128 → EReal) : EReal :=
  Finset.univ.fold min (Ideal.ofBits FTy.f32 2139095040#32) fun x => min (min (min (min (a0 x) (a1 x)) (a2 x)) (a3 x)) (a4 x)

/-- The least word among those whose value is the least. -/
def first (a0 a1 a2 a3 a4 : Fin 128 → EReal) (i0 i1 i2 i3 i4 : Fin 128 → BitVec 32) : BitVec 32 :=
  Finset.univ.fold IntOp.minsi 2147483647#32 fun x =>
    IntOp.minsi (IntOp.minsi (IntOp.minsi (IntOp.minsi (IntOp.minsi big (if a0 x = least a0 a1 a2 a3 a4 then i0 x else big))
      (if a1 x = least a0 a1 a2 a3 a4 then i1 x else big)) (if a2 x = least a0 a1 a2 a3 a4 then i2 x else big))
      (if a3 x = least a0 a1 a2 a3 a4 then i3 x else big)) (if a4 x = least a0 a1 a2 a3 a4 then i4 x else big)

/-- The word found is that of point `k`, when each lane's slots hold what is left of them. -/
theorem first_eq {d : Fin 8192 → EReal} {r : Fin 16 → Fin 8192} (hs : Sorted d r) (hp : Spread d r) (k : Fin 16)
    (e0 e1 e2 e3 e4 : Fin 128 → Entry) (he : ∀ l, slots (lane d l) = [e0 l, e1 l, e2 l, e3 l, e4 l]) :
    first (fun l => left r k (e0 l)) (fun l => left r k (e1 l)) (fun l => left r k (e2 l)) (fun l => left r k (e3 l)) (fun l => left r k (e4 l))
      (fun l => (e0 l).2) (fun l => (e1 l).2) (fun l => (e2 l).2) (fun l => (e3 l).2) (fun l => (e4 l).2) = word (r k) := by
  have hle := left_le hs hp k
  have hmem := left_mem hs hp k
  simp only [he, List.mem_cons, List.not_mem_nil, or_false, forall_eq_or_imp, forall_eq] at hle hmem
  have hleast : least (fun l => left r k (e0 l)) (fun l => left r k (e1 l)) (fun l => left r k (e2 l)) (fun l => left r k (e3 l)) (fun l => left r k (e4 l)) = d (r k) := by
    have hb : Ideal.ofBits FTy.f32 2139095040#32 = ⊤ := by simp [Ideal.ofBits, Ideal.ieee]
    unfold least
    rw [hb]
    apply le_antisymm
    · rw [Finset.fold_min_le]
      obtain ⟨l, e, h, hv, -⟩ := hmem
      refine Or.inr ⟨l, Finset.mem_univ _, ?_⟩
      rw [← hv]
      rcases h with rfl | rfl | rfl | rfl | rfl <;> simp only [min_le_iff, le_refl, true_or, or_true]
    · rw [Finset.le_fold_min]
      refine ⟨le_top, fun l _ => ?_⟩
      obtain ⟨h0, h1, h2, h3, h4⟩ := hle l
      exact le_min (le_min (le_min (le_min h0.1 h1.1) h2.1) h3.1) h4.1
  unfold first
  rw [hleast]
  apply BitVec.eq_of_toInt_eq
  rw [fold_minsi_toInt]
  simp only [minsi_toInt]
  have hbig := (word_big hs hp (r k)).1
  apply le_antisymm
  · rw [Finset.fold_min_le]
    obtain ⟨l, e, h, hv, hw⟩ := hmem
    refine Or.inr ⟨l, Finset.mem_univ _, ?_⟩
    rcases h with rfl | rfl | rfl | rfl | rfl <;> simp only [min_le_iff, hv, if_true, hw, le_refl, true_or, or_true]
  · rw [Finset.le_fold_min]
    refine ⟨hbig.trans (by decide), fun l _ => ?_⟩
    obtain ⟨h0, h1, h2, h3, h4⟩ := hle l
    have hi : ∀ e : Entry, (left r k e = d (r k) → (word (r k)).toInt ≤ e.2.toInt) → (word (r k)).toInt ≤ (if left r k e = d (r k) then e.2 else big).toInt := by
      intro e h
      split
      · rename_i h'; exact h h'
      · exact hbig
    exact le_min (le_min (le_min (le_min (le_min hbig (hi _ h0.2)) (hi _ h1.2)) (hi _ h2.2)) (hi _ h3.2)) (hi _ h4.2)

end Cert.Nearest

end
-- ==== Proof.NearestSort.lean ====
/-
  A stable sort of the positions by distance alone lists them by distance and then by position.
-/
module

public import proofs.«01_k».proof.Proof.Nearest
public import Idealize.ShloMosaic.Lib.SortPrefix
public import Idealize.ShloMosaic.Lib.SortFacts
public import Idealize.ShloMosaic.PureOps.Ideal.Laws

@[expose] public section

noncomputable section

namespace Cert.Nearest

open Idealize.ShloMosaic

open Classical in
/-- By distance, then by position. -/
def lex (d : Fin 8192 → EReal) (p q : Fin 8192) : Bool := decide (d p < d q) || (decide (d p = d q) && decide (p < q))

open Classical in
theorem lex_strict (d : Fin 8192 → EReal) : StrictTotalBefore (lex d) := by
  have h := StrictTotalBefore.of_key_then_position (fun a b : EReal => decide (a < b)) d (by simp)
    (fun a b c hab hbc => by simp only [decide_eq_true_eq] at *; exact hab.trans hbc)
    (fun a b => by simp only [decide_eq_true_eq]; exact lt_trichotomy a b)
  exact h

/-- On a list in increasing order, sorting by distance alone is sorting by distance and position. -/
theorem stableSort_lex (d : Fin 8192 → EReal) (B : Fin 8192 → Fin 8192 → Bool) (hB : ∀ p q, B p q = true ↔ d p < d q) (l : List (Fin 8192))
    (hl : l.Pairwise (· < ·)) : stableSort B l = stableSort (lex d) l := by
  induction l with
  | nil => rfl
  | cons a l ih =>
    rw [List.pairwise_cons] at hl
    show insertBefore B a (stableSort B l) = insertBefore (lex d) a (stableSort (lex d) l)
    rw [ih hl.2]
    refine insertBefore_congr _ _ _ _ fun b hb => ?_
    have hab : a < b := hl.1 b ((perm_stableSort _ _).mem_iff.mp hb)
    have hba : ¬ b < a := by omega
    rw [Bool.eq_iff_iff, hB]
    simp [lex, hba]

theorem sortedFrom_of_eq {n : ℕ} {B B' : Fin n → Fin n → Bool} (h : sortPositions n B = sortPositions n B') (k : Fin n) :
    sortedFrom B k = sortedFrom B' k := by
  unfold sortedFrom
  exact List.get_of_eq h _

/-- The first sixteen positions of the sort. -/
theorem sorted_of (d : Fin 8192 → EReal) (B : Fin 8192 → Fin 8192 → Bool) (hB : ∀ p q, B p q = true ↔ d p < d q) :
    Sorted d fun k => sortedFrom B ⟨(k : ℕ), by omega⟩ := by
  have hS := lex_strict d
  have e : ∀ k, sortedFrom B k = sortedFrom (lex d) k := by
    exact sortedFrom_of_eq (stableSort_lex d B hB _ (List.pairwise_lt_finRange 8192))
  simp only [e]
  have hinv : ∀ i j : Fin 8192, i < j → lex d (sortedFrom (lex d) j) (sortedFrom (lex d) i) = false := fun i j hij =>
    sortedFrom_noInversion (lex d) (lex d) hS.asymm (fun _ _ h => h) hS.negTrans i j hij
  refine ⟨fun i j h => ?_, fun k p hp => ?_⟩
  · have := congrArg Fin.val (sortedFrom_injective (lex d) h)
    exact Fin.ext this
  · obtain ⟨k', rfl⟩ := sortedFrom_surjective (lex d) p
    rcases lt_trichotomy (k' : ℕ) (k : ℕ) with h | h | h
    · exact absurd rfl (hp ⟨(k' : ℕ), by omega⟩ h)
    · have : k' = ⟨(k : ℕ), by omega⟩ := Fin.ext h
      rw [this]
      exact Or.inr ⟨rfl, le_rfl⟩
    · have := hinv ⟨(k : ℕ), by omega⟩ k' h
      simp only [lex, Bool.or_eq_false_iff, decide_eq_false_iff_not, Bool.and_eq_false_iff, not_lt] at this
      obtain ⟨h1, h2⟩ := this
      rcases h1.lt_or_eq with h1 | h1
      · exact Or.inl h1
      · refine Or.inr ⟨h1, ?_⟩
        rcases h2 with h2 | h2
        · exact absurd h1.symm h2
        · exact h2

end Cert.Nearest

end
-- ==== Proof.TopkPay.lean ====
/-
  The top-k kernel's arithmetic read at an index: one trip of its first loop passes a point along the five slots of each lane; one trip of
  its second loop takes out the nearest point left.
-/
module

public import proofs.«01_k».proof.Proof.Gen.Kernel2Ideal.Skeleton
public import proofs.«01_k».proof.Proof.Nearest
public import Idealize.ShloMosaic.Lib.Pointwise

@[expose] public section

set_option maxRecDepth 16384

noncomputable section

namespace Cert.TopkPay

open Idealize.ShloMosaic Cert.Kernel2Ideal Cert.Kernel2Ideal.Gen Cert.Nearest

/-! ### The first loop -/

section First

variable (v0 v2 v4 : FVec Ideal S1x1x16x1 .f32) (x y z : FVec Ideal S1x1x128 .f32)

theorem pay19_at (r : Fin 16) (l : Fin 128) : k0_pay19 (F := Ideal) v0 v2 v4 x y z (ix2 r l)
    = (v0 (ix4 0 0 r 0) - x (ix3 0 0 l)) * (v0 (ix4 0 0 r 0) - x (ix3 0 0 l)) + (v2 (ix4 0 0 r 0) - y (ix3 0 0 l)) * (v2 (ix4 0 0 r 0) - y (ix3 0 0 l))
      + (v4 (ix4 0 0 r 0) - z (ix3 0 0 l)) * (v4 (ix4 0 0 r 0) - z (ix3 0 0 l)) := by
  pointwise [k0_pay19]

/-- The word of a point from its chunk and lane. -/
theorem word_pt (k : ℕ) (hk : k < 64) (l : Fin 128) :
    BitVec.ofNat 32 (l : ℕ) + Scf.iv 0#32 1#32 k * 128#32 = word (pt ⟨k, hk⟩ l) := by
  have hl := l.isLt
  apply BitVec.eq_of_toNat_eq
  simp [Scf.iv, pt]
  omega

theorem pay20_at (k : Fin k0_t1_loop.trips) (hk : (k : ℕ) < 64) (r : Fin 16) (l : Fin 128) :
    k0_pay20 k (ix2 r l) = word (pt ⟨k, hk⟩ l) := by
  rw [← word_pt]
  pointwise [k0_pay20]
  rfl

/-- The five slots of lane `l` of row `r`. -/
def col (a0 a1 a2 a3 a4 : FVec Ideal S16x128 .f32) (i0 i1 i2 i3 i4 : IVec S16x128 32) (r : Fin 16) (l : Fin 128) : List Entry :=
  [(a0 (ix2 r l), i0 (ix2 r l)), (a1 (ix2 r l), i1 (ix2 r l)), (a2 (ix2 r l), i2 (ix2 r l)), (a3 (ix2 r l), i3 (ix2 r l)), (a4 (ix2 r l), i4 (ix2 r l))]

variable (a0 a1 a2 a3 a4 : FVec Ideal S16x128 .f32) (i0 i1 i2 i3 i4 : IVec S16x128 32) (k : Fin k0_t1_loop.trips) (r : Fin 16) (l : Fin 128)

/-- One trip passes the point along the slots. -/
theorem col_step : col (k0_pay22 v0 v2 v4 a0 x y z) (k0_pay27 v0 v2 v4 a0 a1 x y z) (k0_pay32 v0 v2 v4 a0 a1 a2 x y z)
      (k0_pay37 v0 v2 v4 a0 a1 a2 a3 x y z) (k0_pay41 v0 v2 v4 a0 a1 a2 a3 a4 x y z)
      (k0_pay24 v0 v2 v4 k a0 i0 x y z) (k0_pay29 v0 v2 v4 k a0 a1 i0 i1 x y z) (k0_pay34 v0 v2 v4 k a0 a1 a2 i0 i1 i2 x y z)
      (k0_pay39 v0 v2 v4 k a0 a1 a2 a3 i0 i1 i2 i3 x y z) (k0_pay42 v0 v2 v4 k a0 a1 a2 a3 a4 i0 i1 i2 i3 i4 x y z) r l
    = put (col a0 a1 a2 a3 a4 i0 i1 i2 i3 i4 r l) (k0_pay19 (F := Ideal) v0 v2 v4 x y z (ix2 r l), k0_pay20 k (ix2 r l)) := by
  have h22 : k0_pay22 v0 v2 v4 a0 x y z (ix2 r l) = if k0_pay19 (F := Ideal) v0 v2 v4 x y z (ix2 r l) < a0 (ix2 r l) then k0_pay19 (F := Ideal) v0 v2 v4 x y z (ix2 r l) else a0 (ix2 r l) := by
    pointwise [k0_pay22, k0_pay21]
  have h23 : k0_pay23 v0 v2 v4 a0 x y z (ix2 r l) = if k0_pay19 (F := Ideal) v0 v2 v4 x y z (ix2 r l) < a0 (ix2 r l) then a0 (ix2 r l) else k0_pay19 (F := Ideal) v0 v2 v4 x y z (ix2 r l) := by
    pointwise [k0_pay23, k0_pay21]
  have h24 : k0_pay24 v0 v2 v4 k a0 i0 x y z (ix2 r l) = if k0_pay19 (F := Ideal) v0 v2 v4 x y z (ix2 r l) < a0 (ix2 r l) then k0_pay20 k (ix2 r l) else i0 (ix2 r l) := by
    pointwise [k0_pay24, k0_pay21]
  have h25 : k0_pay25 v0 v2 v4 k a0 i0 x y z (ix2 r l) = if k0_pay19 (F := Ideal) v0 v2 v4 x y z (ix2 r l) < a0 (ix2 r l) then i0 (ix2 r l) else k0_pay20 k (ix2 r l) := by
    pointwise [k0_pay25, k0_pay21]
  have h27 : k0_pay27 v0 v2 v4 a0 a1 x y z (ix2 r l) = if k0_pay23 v0 v2 v4 a0 x y z (ix2 r l) < a1 (ix2 r l) then k0_pay23 v0 v2 v4 a0 x y z (ix2 r l) else a1 (ix2 r l) := by
    pointwise [k0_pay27, k0_pay26]
  have h28 : k0_pay28 v0 v2 v4 a0 a1 x y z (ix2 r l) = if k0_pay23 v0 v2 v4 a0 x y z (ix2 r l) < a1 (ix2 r l) then a1 (ix2 r l) else k0_pay23 v0 v2 v4 a0 x y z (ix2 r l) := by
    pointwise [k0_pay28, k0_pay26]
  have h29 : k0_pay29 v0 v2 v4 k a0 a1 i0 i1 x y z (ix2 r l) = if k0_pay23 v0 v2 v4 a0 x y z (ix2 r l) < a1 (ix2 r l) then k0_pay25 v0 v2 v4 k a0 i0 x y z (ix2 r l) else i1 (ix2 r l) := by
    pointwise [k0_pay29, k0_pay26]
  have h30 : k0_pay30 v0 v2 v4 k a0 a1 i0 i1 x y z (ix2 r l) = if k0_pay23 v0 v2 v4 a0 x y z (ix2 r l) < a1 (ix2 r l) then i1 (ix2 r l) else k0_pay25 v0 v2 v4 k a0 i0 x y z (ix2 r l) := by
    pointwise [k0_pay30, k0_pay26]
  have h32 : k0_pay32 v0 v2 v4 a0 a1 a2 x y z (ix2 r l) = if k0_pay28 v0 v2 v4 a0 a1 x y z (ix2 r l) < a2 (ix2 r l) then k0_pay28 v0 v2 v4 a0 a1 x y z (ix2 r l) else a2 (ix2 r l) := by
    pointwise [k0_pay32, k0_pay31]
  have h33 : k0_pay33 v0 v2 v4 a0 a1 a2 x y z (ix2 r l) = if k0_pay28 v0 v2 v4 a0 a1 x y z (ix2 r l) < a2 (ix2 r l) then a2 (ix2 r l) else k0_pay28 v0 v2 v4 a0 a1 x y z (ix2 r l) := by
    pointwise [k0_pay33, k0_pay31]
  have h34 : k0_pay34 v0 v2 v4 k a0 a1 a2 i0 i1 i2 x y z (ix2 r l) = if k0_pay28 v0 v2 v4 a0 a1 x y z (ix2 r l) < a2 (ix2 r l) then k0_pay30 v0 v2 v4 k a0 a1 i0 i1 x y z (ix2 r l) else i2 (ix2 r l) := by
    pointwise [k0_pay34, k0_pay31]
  have h35 : k0_pay35 v0 v2 v4 k a0 a1 a2 i0 i1 i2 x y z (ix2 r l) = if k0_pay28 v0 v2 v4 a0 a1 x y z (ix2 r l) < a2 (ix2 r l) then i2 (ix2 r l) else k0_pay30 v0 v2 v4 k a0 a1 i0 i1 x y z (ix2 r l) := by
    pointwise [k0_pay35, k0_pay31]
  have h37 : k0_pay37 v0 v2 v4 a0 a1 a2 a3 x y z (ix2 r l) = if k0_pay33 v0 v2 v4 a0 a1 a2 x y z (ix2 r l) < a3 (ix2 r l) then k0_pay33 v0 v2 v4 a0 a1 a2 x y z (ix2 r l) else a3 (ix2 r l) := by
    pointwise [k0_pay37, k0_pay36]
  have h38 : k0_pay38 v0 v2 v4 a0 a1 a2 a3 x y z (ix2 r l) = if k0_pay33 v0 v2 v4 a0 a1 a2 x y z (ix2 r l) < a3 (ix2 r l) then a3 (ix2 r l) else k0_pay33 v0 v2 v4 a0 a1 a2 x y z (ix2 r l) := by
    pointwise [k0_pay38, k0_pay36]
  have h39 : k0_pay39 v0 v2 v4 k a0 a1 a2 a3 i0 i1 i2 i3 x y z (ix2 r l) = if k0_pay33 v0 v2 v4 a0 a1 a2 x y z (ix2 r l) < a3 (ix2 r l) then k0_pay35 v0 v2 v4 k a0 a1 a2 i0 i1 i2 x y z (ix2 r l) else i3 (ix2 r l) := by
    pointwise [k0_pay39, k0_pay36]
  have h41 : k0_pay41 v0 v2 v4 a0 a1 a2 a3 a4 x y z (ix2 r l) = if k0_pay38 v0 v2 v4 a0 a1 a2 a3 x y z (ix2 r l) < a4 (ix2 r l) then k0_pay38 v0 v2 v4 a0 a1 a2 a3 x y z (ix2 r l) else a4 (ix2 r l) := by
    pointwise [k0_pay41, k0_pay40]
  have h42 : k0_pay42 v0 v2 v4 k a0 a1 a2 a3 a4 i0 i1 i2 i3 i4 x y z (ix2 r l) = if k0_pay38 v0 v2 v4 a0 a1 a2 a3 x y z (ix2 r l) < a4 (ix2 r l) then (if k0_pay33 v0 v2 v4 a0 a1 a2 x y z (ix2 r l) < a3 (ix2 r l) then i3 (ix2 r l) else k0_pay35 v0 v2 v4 k a0 a1 a2 i0 i1 i2 x y z (ix2 r l)) else i4 (ix2 r l) := by
    pointwise [k0_pay42, k0_pay40, k0_pay36]
  simp only [col, put, h22, h24, h27, h29, h32, h34, h37, h39, h41, h42, h38, h33, h35, h28, h30, h23, h25]

end First

/-! ### The second loop -/

section Second

variable (i0 i1 i2 i3 i4 : IVec S16x128 32) (a0 a1 a2 a3 a4 : FVec Ideal S16x128 .f32) (top : Ideal .f32) (r : Fin 16) (l : Fin 128)

theorem pay2_at : k0_pay2 i0 i1 i2 i3 i4 1073741824#32 a0 a1 a2 a3 a4 (ix2 r 0)
    = first (fun x => a0 (ix2 r x)) (fun x => a1 (ix2 r x)) (fun x => a2 (ix2 r x)) (fun x => a3 (ix2 r x)) (fun x => a4 (ix2 r x))
        (fun x => i0 (ix2 r x)) (fun x => i1 (ix2 r x)) (fun x => i2 (ix2 r x)) (fun x => i3 (ix2 r x)) (fun x => i4 (ix2 r x)) := by
  unfold first least
  pointwise [k0_pay2]

theorem sel_eq {α : Type} (u w : BitVec 32) (a b : α) : Scalar.select (IntOp.cmpi .eq u w) a b = if u = w then a else b := by
  by_cases h : u = w
  · rw [if_pos h, h]
    simp [IntOp.cmpi, Scalar.select]
  · rw [if_neg h]
    simp only [IntOp.cmpi, beq_eq_false_iff_ne.mpr h]
    rfl

theorem pay4_at : k0_pay4 i0 i1 i2 i3 i4 1073741824#32 top a0 a1 a2 a3 a4 (ix2 r l)
    = if i0 (ix2 r l) = k0_pay2 i0 i1 i2 i3 i4 1073741824#32 a0 a1 a2 a3 a4 (ix2 r 0) then top else a0 (ix2 r l) := by
  rw [← sel_eq]
  pointwise [k0_pay4]

theorem pay5_at : k0_pay5 i0 i1 i2 i3 i4 1073741824#32 top a0 a1 a2 a3 a4 (ix2 r l)
    = if i1 (ix2 r l) = k0_pay2 i0 i1 i2 i3 i4 1073741824#32 a0 a1 a2 a3 a4 (ix2 r 0) then top else a1 (ix2 r l) := by
  rw [← sel_eq]
  pointwise [k0_pay5]

theorem pay6_at : k0_pay6 i0 i1 i2 i3 i4 1073741824#32 top a0 a1 a2 a3 a4 (ix2 r l)
    = if i2 (ix2 r l) = k0_pay2 i0 i1 i2 i3 i4 1073741824#32 a0 a1 a2 a3 a4 (ix2 r 0) then top else a2 (ix2 r l) := by
  rw [← sel_eq]
  pointwise [k0_pay6]

theorem pay7_at : k0_pay7 i0 i1 i2 i3 i4 1073741824#32 top a0 a1 a2 a3 a4 (ix2 r l)
    = if i3 (ix2 r l) = k0_pay2 i0 i1 i2 i3 i4 1073741824#32 a0 a1 a2 a3 a4 (ix2 r 0) then top else a3 (ix2 r l) := by
  rw [← sel_eq]
  pointwise [k0_pay7]

theorem pay44_at : k0_pay44 a4 (k0_pay8 i0 i1 i2 i3 i4 1073741824#32 a0 a1 a2 a3 a4) (ix2 r l)
    = if i4 (ix2 r l) = k0_pay2 i0 i1 i2 i3 i4 1073741824#32 a0 a1 a2 a3 a4 (ix2 r 0) then Scalar.ofBits (F := Ideal) .f32 0x7F800000#32 else a4 (ix2 r l) := by
  rw [← sel_eq]
  pointwise [k0_pay44, k0_pay8]

/-- The positions along the axis of the sixteen. -/
abbrev cols : IVec S16x16 32 := iota .tc S16x16 32 [1] iota_S16x16_d1_w32

theorem pay3_at (k : Fin k0_t2_loop.trips) (hk : (k : ℕ) < 16) (b : IVec S16x16 32) (j : Fin 16) :
    k0_pay3 i0 i1 i2 i3 i4 cols 1073741824#32 0#32 1#32 k a0 a1 a2 a3 a4 b (ix2 r j)
      = if (j : ℕ) = k then k0_pay2 i0 i1 i2 i3 i4 1073741824#32 a0 a1 a2 a3 a4 (ix2 r 0) else b (ix2 r j) := by
  have hj := j.isLt
  have e2 : Scf.iv 0#32 1#32 (k : ℕ) = BitVec.ofNat 32 (k : ℕ) := by
    apply BitVec.eq_of_toNat_eq
    simp [Scf.iv]
  have e3 : (BitVec.ofNat 32 (j : ℕ) = BitVec.ofNat 32 (k : ℕ)) ↔ (j : ℕ) = k := by
    constructor
    · intro h
      have := congrArg BitVec.toNat h
      simp only [BitVec.toNat_ofNat] at this
      omega
    · intro h; rw [h]
  simp only [← e3]
  rw [← sel_eq, ← e2]
  pointwise [k0_pay3]

end Second

end Cert.TopkPay

end
-- ==== Proof.TopkLoop.lean ====
/-
  The top-k kernel's two loops read at an index: the first ends with each lane's five slots, the second with the sixteen nearest points in
  order.
-/
module

public import proofs.«01_k».proof.Proof.TopkRun
public import proofs.«01_k».proof.Proof.TopkPay
public import Idealize.ShloMosaic.Lib.VecWindow

@[expose] public section

set_option maxRecDepth 16384

noncomputable section

namespace Cert.TopkLoop

open Idealize.ShloMosaic Idealize.ShloMosaic.TcCoe Cert.Kernel2Ideal Cert.Kernel2Ideal.Gen Cert.Kernel2Ideal.Run Cert.Nearest Cert.TopkPay

/-- The squared distances of the points `X, Y, Z` from the point `(x, y, z)`. -/
def dist (X Y Z : Fin 8192 → EReal) (x y z : EReal) : Fin 8192 → EReal :=
  fun p => (x - X p) * (x - X p) + (y - Y p) * (y - Y p) + (z - Z p) * (z - Z p)

/-- One row of a block of points. -/
theorem row_at (M : Memref sig .tc .vmem S1x64x128 .f32) (hM : M.IsWhole) (x : FVec Ideal S1x64x128 .f32) (k : Fin k0_t1_loop.trips) (hk : (k : ℕ) < 64) (l : Fin 128) :
    M.view.readAt (Elt Ideal) (Rect.unit (s := S1x64x128) (k0_off1 k) S1x1x128.size (k0_off1_inb k)).toLoadRect (hM.unread x) (ix3 0 0 l) = x (ix3 0 ⟨k, hk⟩ l) := by
  rw [View.readAt_eq_ld, Memref.IsWhole.read_unread]
  refine congrArg x (funext fun a => Fin.ext ?_)
  fin_cases a
  · rfl
  · show k0_off1 k 1 + 1 * 0 = (k : ℕ)
    unfold k0_off1
    simp [Scf.iv, Scalar.indexCast]
    omega
  · show 0 + 1 * (l : ℕ) = (l : ℕ)
    omega

/-- What the first loop carries. -/
abbrev Slots : Type := FVec Ideal S16x128 .f32 × FVec Ideal S16x128 .f32 × FVec Ideal S16x128 .f32 × FVec Ideal S16x128 .f32 × FVec Ideal S16x128 .f32
  × IVec S16x128 32 × IVec S16x128 32 × IVec S16x128 32 × IVec S16x128 32 × IVec S16x128 32

/-- The five slots of lane `l` of row `r`. -/
def colOf (a : Slots) (r : Fin 16) (l : Fin 128) : List Entry :=
  col a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2 r l

/-- What the first loop starts from. -/
abbrev init1 : Slots := (k0_pay9, k0_pay10, k0_pay11, k0_pay12, k0_pay13, k0_pay14, k0_pay15, k0_pay16, k0_pay17, k0_pay18)

theorem init1_at (r : Fin 16) (l : Fin 128) : colOf init1 r l = slots [] := by
  have hb : Ideal.ofBits FTy.f32 2139095040#32 = ⊤ := by simp [Ideal.ofBits, Ideal.ieee]
  unfold colOf col slots
  rw [← hb]
  rfl

section Body

variable (c : Dev nD) (i : grid0.Coords) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x1x16x1 .f32) (harg5 : arg5.IsWhole) (arg6 : Memref sig .tc .vmem S1x1x16x1 .f32) (harg6 : arg6.IsWhole) (arg7 : Memref sig .tc .vmem S1x1x16x1 .f32) (harg7 : arg7.IsWhole) (arg8 : Memref sig .tc .vmem S1x1x16x16 .i32) (harg8 : arg8.IsWhole)
  (x0 x1 x2 : FVec Ideal S1x64x128 .f32) (x3 x4 x5 : FVec Ideal S1x1x16x1 .f32)

/-- The state of the slots before trip `k`. -/
abbrev st (k : ℕ) : Slots := st_k0_t1 (F := Ideal) Variants.none c none i arg2 harg2 arg3 harg3 arg4 harg4 arg5 harg5 arg6 harg6 arg7 harg7 arg8 harg8 x3 x4 x5 (harg2.unread x0) (harg3.unread x1) (harg4.unread x2) init1 k

theorem trips1 : k0_t1_loop.trips = 64 := by decide

theorem trips2 : k0_t2_loop.trips = 16 := by decide

variable {X Y Z : Fin 8192 → EReal} (hX : ∀ j l, x0 (ix3 0 j l) = X (pt j l)) (hY : ∀ j l, x1 (ix3 0 j l) = Y (pt j l)) (hZ : ∀ j l, x2 (ix3 0 j l) = Z (pt j l))
include hX hY hZ

/-- Before trip `k` the slots hold what the lane's first `k` points leave in them. -/
theorem st_at (r : Fin 16) (l : Fin 128) : ∀ k, k ≤ 64 → colOf (st c i arg2 harg2 arg3 harg3 arg4 harg4 arg5 harg5 arg6 harg6 arg7 harg7 arg8 harg8 x0 x1 x2 x3 x4 x5 k) r l
    = slots ((lane (dist X Y Z (x3 (ix4 0 0 r 0)) (x4 (ix4 0 0 r 0)) (x5 (ix4 0 0 r 0))) l).take k) := by
  intro k
  induction k with
  | zero => intro _; exact init1_at r l
  | succ k ih =>
    intro hk
    have hk' : k < 64 := hk
    have hkt : k < k0_t1_loop.trips := by rw [trips1]; exact hk'
    have e := ih (Nat.le_of_succ_le hk)
    have hs := st_k0_t1_succ (F := Ideal) Variants.none c none i arg2 harg2 arg3 harg3 arg4 harg4 arg5 harg5 arg6 harg6 arg7 harg7 arg8 harg8 x3 x4 x5 (harg2.unread x0) (harg3.unread x1) (harg4.unread x2) init1 ⟨k, hkt⟩
    unfold tripR_k0_t1 trip_k0_t1 at hs
    dsimp only at hs
    have hlane : (lane (dist X Y Z (x3 (ix4 0 0 r 0)) (x4 (ix4 0 0 r 0)) (x5 (ix4 0 0 r 0))) l).take (k + 1)
        = (lane (dist X Y Z (x3 (ix4 0 0 r 0)) (x4 (ix4 0 0 r 0)) (x5 (ix4 0 0 r 0))) l).take k
          ++ [(dist X Y Z (x3 (ix4 0 0 r 0)) (x4 (ix4 0 0 r 0)) (x5 (ix4 0 0 r 0)) (pt ⟨k, hk'⟩ l), word (pt ⟨k, hk'⟩ l))] := by
      have hl : k < (lane (dist X Y Z (x3 (ix4 0 0 r 0)) (x4 (ix4 0 0 r 0)) (x5 (ix4 0 0 r 0))) l).length := by simp [lane, hk']
      rw [List.take_succ_eq_append_getElem hl]
      simp [lane]
    rw [hlane, slots_concat, ← e]
    unfold st
    rw [hs]
    refine (col_step _ _ _ _ _ _ _ _ _ _ _ _ _ _ _ _ _ r l).trans ?_
    rw [pay19_at, pay20_at _ hk', row_at _ _ _ _ hk', row_at _ _ _ _ hk', row_at _ _ _ _ hk', hX, hY, hZ]
    rfl

end Body

section Picks

theorem top_eq : (Scalar.ofBits (F := Ideal) .f32 0x7F800000#32 : EReal) = ⊤ := by
  show Ideal.ofBits FTy.f32 2139095040#32 = ⊤
  simp [Ideal.ofBits, Ideal.ieee]

variable (a : Slots) (r : Fin 16) {d : Fin 8192 → EReal} {q : Fin 16 → Fin 8192} (hs : Sorted d q) (hp : Spread d q)
  (ha : ∀ l, colOf a r l = slots (lane d l))

/-- What the second loop carries before trip `k`, from the slots `a`. -/
abbrev pk (k : ℕ) : Picks Ideal := picks a.2.2.2.2.2.1 a.2.2.2.2.2.2.1 a.2.2.2.2.2.2.2.1 a.2.2.2.2.2.2.2.2.1 a.2.2.2.2.2.2.2.2.2 cols
  (Scalar.ofBits (F := Ideal) .f32 0x7F800000#32) (a.1, a.2.1, a.2.2.1, a.2.2.2.1, a.2.2.2.2.1, k0_pay43) k

/-- Before trip `k` the slots hold what is left once the first `k` points are taken, and the words of those points are in place. -/
structure PAt (k : ℕ) (P : Picks Ideal) : Prop where
  h0 : ∀ l, P.1 (ix2 r l) = left q k (a.1 (ix2 r l), a.2.2.2.2.2.1 (ix2 r l))
  h1 : ∀ l, P.2.1 (ix2 r l) = left q k (a.2.1 (ix2 r l), a.2.2.2.2.2.2.1 (ix2 r l))
  h2 : ∀ l, P.2.2.1 (ix2 r l) = left q k (a.2.2.1 (ix2 r l), a.2.2.2.2.2.2.2.1 (ix2 r l))
  h3 : ∀ l, P.2.2.2.1 (ix2 r l) = left q k (a.2.2.2.1 (ix2 r l), a.2.2.2.2.2.2.2.2.1 (ix2 r l))
  h4 : ∀ l, P.2.2.2.2.1 (ix2 r l) = left q k (a.2.2.2.2.1 (ix2 r l), a.2.2.2.2.2.2.2.2.2 (ix2 r l))
  ho : ∀ j : Fin 16, P.2.2.2.2.2 (ix2 r j) = if (j : ℕ) < k then word (q j) else 0#32

include hs hp ha

theorem pk_at : ∀ k, k ≤ 16 → PAt (q := q) a r k (pk a k) := by
  intro k
  induction k with
  | zero =>
    intro _
    refine ⟨fun l => ?_, fun l => ?_, fun l => ?_, fun l => ?_, fun l => ?_, fun j => ?_⟩
    · rw [left_zero]; rfl
    · rw [left_zero]; rfl
    · rw [left_zero]; rfl
    · rw [left_zero]; rfl
    · rw [left_zero]; rfl
    · rw [if_neg (Nat.not_lt_zero _)]; rfl
  | succ k ih =>
    intro hk
    have hk' : k < 16 := hk
    have hkt : k < k0_t2_loop.trips := by rw [trips2]; exact hk'
    have H := ih (Nat.le_of_succ_le hk)
    have e2 := pay2_at a.2.2.2.2.2.1 a.2.2.2.2.2.2.1 a.2.2.2.2.2.2.2.1 a.2.2.2.2.2.2.2.2.1 a.2.2.2.2.2.2.2.2.2
      (pk a k).1 (pk a k).2.1 (pk a k).2.2.1 (pk a k).2.2.2.1 (pk a k).2.2.2.2.1 r
    have hf := first_eq hs hp ⟨k, hk'⟩ (fun l => (a.1 (ix2 r l), a.2.2.2.2.2.1 (ix2 r l))) (fun l => (a.2.1 (ix2 r l), a.2.2.2.2.2.2.1 (ix2 r l)))
      (fun l => (a.2.2.1 (ix2 r l), a.2.2.2.2.2.2.2.1 (ix2 r l))) (fun l => (a.2.2.2.1 (ix2 r l), a.2.2.2.2.2.2.2.2.1 (ix2 r l)))
      (fun l => (a.2.2.2.2.1 (ix2 r l), a.2.2.2.2.2.2.2.2.2 (ix2 r l))) (fun l => (ha l).symm)
    rw [funext H.h0, funext H.h1, funext H.h2, funext H.h3, funext H.h4] at e2
    have e := e2.trans hf
    have hS := picks_succ a.2.2.2.2.2.1 a.2.2.2.2.2.2.1 a.2.2.2.2.2.2.2.1 a.2.2.2.2.2.2.2.2.1 a.2.2.2.2.2.2.2.2.2 cols
      (Scalar.ofBits (F := Ideal) .f32 0x7F800000#32) (a.1, a.2.1, a.2.2.1, a.2.2.2.1, a.2.2.2.2.1, k0_pay43) ⟨k, hkt⟩
    unfold pk
    rw [hS]
    have hL := left_succ hs hp ⟨k, hk'⟩
    refine ⟨fun l => ?_, fun l => ?_, fun l => ?_, fun l => ?_, fun l => ?_, fun j => ?_⟩
    · refine (pay4_at _ _ _ _ _ _ _ _ _ _ _ r l).trans ?_
      rw [e, H.h0, top_eq]
      exact (hL (a.1 (ix2 r l), a.2.2.2.2.2.1 (ix2 r l))).symm
    · refine (pay5_at _ _ _ _ _ _ _ _ _ _ _ r l).trans ?_
      rw [e, H.h1, top_eq]
      exact (hL (a.2.1 (ix2 r l), a.2.2.2.2.2.2.1 (ix2 r l))).symm
    · refine (pay6_at _ _ _ _ _ _ _ _ _ _ _ r l).trans ?_
      rw [e, H.h2, top_eq]
      exact (hL (a.2.2.1 (ix2 r l), a.2.2.2.2.2.2.2.1 (ix2 r l))).symm
    · refine (pay7_at _ _ _ _ _ _ _ _ _ _ _ r l).trans ?_
      rw [e, H.h3, top_eq]
      exact (hL (a.2.2.2.1 (ix2 r l), a.2.2.2.2.2.2.2.2.1 (ix2 r l))).symm
    · refine (pay44_at _ _ _ _ _ _ _ _ _ _ r l).trans ?_
      rw [e, H.h4, top_eq]
      exact (hL (a.2.2.2.2.1 (ix2 r l), a.2.2.2.2.2.2.2.2.2 (ix2 r l))).symm
    · refine (pay3_at _ _ _ _ _ _ _ _ _ _ r ⟨k, hkt⟩ hk' _ j).trans ?_
      rw [e, H.ho]
      by_cases h1 : (j : ℕ) = k
      · rw [if_pos h1, if_pos (by omega)]
        exact congrArg word (congrArg q (Fin.ext h1.symm))
      · rw [if_neg h1]
        by_cases h2 : (j : ℕ) < k
        · rw [if_pos h2, if_pos (by omega)]
        · rw [if_neg h2, if_neg (by omega)]

end Picks

section Out

/-- A load of a whole block of coordinates. -/
theorem rd_3 (M : Memref sig .tc .vmem S1x1x16x1 .f32) (hM : M.IsWhole) (x : FVec Ideal S1x1x16x1 .f32) :
    M.view.readAt (Elt Ideal) (Rect.unit (s := S1x1x16x1) ![0, 0, 0, 0] S1x1x16x1.size inb_S1x1x16x1_S1x1x16x1_0_0_0_0).toLoadRect (hM.unread x) = x := by
  refine (View.readAt_full (s := S1x1x16x1) M.view _ inb_S1x1x16x1_S1x1x16x1_0_0_0_0).trans ?_
  exact Memref.IsWhole.read_unread (Val := Elt Ideal) hM x

variable (c : Dev nD) (i : grid0.Coords) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x1x16x1 .f32) (harg5 : arg5.IsWhole) (arg6 : Memref sig .tc .vmem S1x1x16x1 .f32) (harg6 : arg6.IsWhole) (arg7 : Memref sig .tc .vmem S1x1x16x1 .f32) (harg7 : arg7.IsWhole) (arg8 : Memref sig .tc .vmem S1x1x16x16 .i32) (harg8 : arg8.IsWhole)
  (x0 x1 x2 : FVec Ideal S1x64x128 .f32) (x3 x4 x5 : FVec Ideal S1x1x16x1 .f32)
  {X Y Z : Fin 8192 → EReal} (hX : ∀ j l, x0 (ix3 0 j l) = X (pt j l)) (hY : ∀ j l, x1 (ix3 0 j l) = Y (pt j l)) (hZ : ∀ j l, x2 (ix3 0 j l) = Z (pt j l))
include hX hY hZ

/-- The body leaves the words of the sixteen nearest points. -/
theorem out_at (r j : Fin 16) {q : Fin 16 → Fin 8192} (hs : Sorted (dist X Y Z (x3 (ix4 0 0 r 0)) (x4 (ix4 0 0 r 0)) (x5 (ix4 0 0 r 0))) q)
    (hp : Spread (dist X Y Z (x3 (ix4 0 0 r 0)) (x4 (ix4 0 0 r 0)) (x5 (ix4 0 0 r 0))) q) :
    out (F := Ideal) c i arg2 harg2 arg3 harg3 arg4 harg4 arg5 harg5 arg6 harg6 arg7 harg7 arg8 harg8 x0 x1 x2 x3 x4 x5 (ix4 0 0 r j) = word (q j) := by
  have hA : ∀ l, colOf (st c i arg2 harg2 arg3 harg3 arg4 harg4 arg5 harg5 arg6 harg6 arg7 harg7 arg8 harg8 x0 x1 x2 x3 x4 x5 64) r l = slots (lane (dist X Y Z (x3 (ix4 0 0 r 0)) (x4 (ix4 0 0 r 0)) (x5 (ix4 0 0 r 0))) l) := by
    intro l
    rw [st_at c i arg2 harg2 arg3 harg3 arg4 harg4 arg5 harg5 arg6 harg6 arg7 harg7 arg8 harg8 x0 x1 x2 x3 x4 x5 hX hY hZ r l 64 le_rfl, List.take_of_length_le (by simp [lane])]
  have H := (pk_at _ r hs hp hA 16 le_rfl).ho j
  rw [if_pos j.isLt] at H
  rw [← H]
  have e : kernelRun.sl.r (F := Ideal) c i arg2 harg2 arg3 harg3 arg4 harg4 arg5 harg5 arg6 harg6 arg7 harg7 arg8 harg8 x0 x1 x2 x3 x4 x5
      = (pk (st c i arg2 harg2 arg3 harg3 arg4 harg4 arg5 harg5 arg6 harg6 arg7 harg7 arg8 harg8 x0 x1 x2 (arg5.view.readAt (Elt Ideal) (Rect.unit (s := S1x1x16x1) ![0, 0, 0, 0] S1x1x16x1.size inb_S1x1x16x1_S1x1x16x1_0_0_0_0).toLoadRect (harg5.unread x3))
          (arg6.view.readAt (Elt Ideal) (Rect.unit (s := S1x1x16x1) ![0, 0, 0, 0] S1x1x16x1.size inb_S1x1x16x1_S1x1x16x1_0_0_0_0).toLoadRect (harg6.unread x4)) (arg7.view.readAt (Elt Ideal) (Rect.unit (s := S1x1x16x1) ![0, 0, 0, 0] S1x1x16x1.size inb_S1x1x16x1_S1x1x16x1_0_0_0_0).toLoadRect (harg7.unread x5)) 64) 16).2.2.2.2.2 := rfl
  rw [rd_3, rd_3, rd_3] at e
  unfold out kernelRun
  dsimp only
  rw [View.read_writes_full, e]
  pointwise [k0_pay1]

end Out

end Cert.TopkLoop

end
-- ==== Proof.TopkRef.lean ====
/-
  The reference's nearest points: its squared distances, and the positions its top-k gives.
-/
module

public import proofs.«01_k».proof.Proof.Gen.Reference2Ideal
public import proofs.«01_k».proof.Proof.Gen.Pre_spread_out
public import proofs.«01_k».proof.Proof.NearestSort
public import proofs.«01_k».proof.Proof.TopkLoop
public import Idealize.ShloMosaic.Lib.Pointwise

@[expose] public section

set_option maxRecDepth 16384

noncomputable section

namespace Cert.TopkRef

open Idealize.ShloMosaic Cert.TopkLoop Cert.Reference2Ideal Cert.Reference2Ideal.Gen Cert.Nearest

section

variable (xyz : FVec Ideal S16x8192x3 .f32) (feat : FVec Ideal S16x8192x128 .f32) (lc : FVec Ideal S16x512x3 .f32)

/-- The squared distance of each sample from each point. -/
def D2 : FVec Ideal S16x512x8192 .f32 :=
  Host.reduceAdd (F := Ideal) (φ := .f32)
    (mulf (subf (broadcastInDim S16x512x8192x3 ![0, 1, 2, 3] bcast_S16x512x1x3_S16x512x8192x3_0_1_2_3 (broadcastInDim S16x512x1x3 ![0, 1, 3] bcast_S16x512x3_S16x512x1x3_0_1_3 lc))
        (broadcastInDim S16x512x8192x3 ![0, 1, 2, 3] bcast_S16x1x8192x3_S16x512x8192x3_0_1_2_3 (broadcastInDim S16x1x8192x3 ![0, 2, 3] bcast_S16x8192x3_S16x1x8192x3_0_2_3 xyz)))
      (subf (broadcastInDim S16x512x8192x3 ![0, 1, 2, 3] bcast_S16x512x1x3_S16x512x8192x3_0_1_2_3 (broadcastInDim S16x512x1x3 ![0, 1, 3] bcast_S16x512x3_S16x512x1x3_0_1_3 lc))
        (broadcastInDim S16x512x8192x3 ![0, 1, 2, 3] bcast_S16x1x8192x3_S16x512x8192x3_0_1_2_3 (broadcastInDim S16x1x8192x3 ![0, 2, 3] bcast_S16x8192x3_S16x1x8192x3_0_2_3 xyz))))
    (constant (F := Ideal) S_ .f32 0x00000000#32) reducesTo_S16x512x8192x3_S16x512x8192_d3 h_S_

/-- The distances of sample `s` of cloud `b`. -/
def dOf (b : Fin 16) (s : Fin 512) : Fin 8192 → EReal :=
  TopkLoop.dist (fun p => xyz (ix3 b p 0)) (fun p => xyz (ix3 b p 1)) (fun p => xyz (ix3 b p 2)) (lc (ix3 b s 0)) (lc (ix3 b s 1)) (lc (ix3 b s 2))

theorem D2_at (b : Fin 16) (s : Fin 512) (p : Fin 8192) : D2 xyz lc (ix3 b s p) = dOf xyz lc b s p := by
  unfold dOf TopkLoop.dist
  pointwise [D2]
  exact Fin.sum_univ_three _

/-- The largest of the negated distances, and where they are. -/
def TOP : FVec Ideal S16x512x16 .f32 × IVec S16x512x16 32 :=
  Host.topK S16x512x16 2 (FloatOps.cmpfTotal (F := Ideal) (φ := .f32) .gt) (Host.negf (D2 xyz lc)) sliceFits_S16x512x8192_S16x512x16

/-- Whether one position goes before another in the sort. -/
def before (b : Fin 16) (s : Fin 512) (p q : Fin 8192) : Bool :=
  FloatOps.cmpfTotal (F := Ideal) (φ := .f32) .gt (Host.negf (D2 xyz lc) (ix3 b s p)) (Host.negf (D2 xyz lc) (ix3 b s q)) == 1#1

/-- The nearest points of sample `s` of cloud `b`, in order. -/
def near (b : Fin 16) (s : Fin 512) (k : Fin 16) : Fin 8192 := sortedFrom (before xyz lc b s) ⟨(k : ℕ), by omega⟩

theorem along_eq (b : Fin 16) (s : Fin 512) (p : Fin 8192) (hd : 2 < S16x512x8192.rank) (q : Fin (S16x512x8192.size ⟨2, hd⟩)) :
    Shape.Idx.along (s := S16x512x8192) (ix3 b s p) ⟨2, hd⟩ q = ix3 b s (q : Fin 8192) := by
  funext a
  fin_cases a <;> rfl

theorem slice_at {α : Type} (y : S16x512x8192.Idx → α) (b : Fin 16) (s : Fin 512) (k : Fin 16) :
    extractStridedSlice S16x512x16 (fun _ => 0) y sliceFits_S16x512x8192_S16x512x16 (ix3 b s k) = y (ix3 b s ⟨(k : ℕ), by omega⟩) := by
  refine congrArg y (funext fun a => Fin.ext ?_)
  fin_cases a <;> exact Nat.zero_add _

theorem topK_at {α : Type} (gt : α → α → BitVec 1) (x : S16x512x8192.Idx → α) (b : Fin 16) (s : Fin 512) (k : Fin 16) :
    (Host.topK S16x512x16 2 gt x sliceFits_S16x512x8192_S16x512x16).1 (ix3 b s k)
        = x (ix3 b s (sortedFrom (fun p q : Fin 8192 => gt (x (ix3 b s p)) (x (ix3 b s q)) == 1#1) ⟨(k : ℕ), by omega⟩))
      ∧ (Host.topK S16x512x16 2 gt x sliceFits_S16x512x8192_S16x512x16).2 (ix3 b s k)
        = word (sortedFrom (fun p q : Fin 8192 => gt (x (ix3 b s p)) (x (ix3 b s q)) == 1#1) ⟨(k : ℕ), by omega⟩) := by
  unfold Host.topK
  dsimp only
  rw [slice_at, slice_at]
  unfold Host.sort2
  rw [dif_pos (show 2 < S16x512x8192.rank by decide)]
  dsimp only
  simp only [along_eq]
  refine ⟨rfl, ?_⟩
  rw [dif_pos (by decide)]
  rfl

theorem top_at (b : Fin 16) (s : Fin 512) (k : Fin 16) :
    (TOP xyz lc).1 (ix3 b s k) = Host.negf (D2 xyz lc) (ix3 b s (near xyz lc b s k)) ∧ (TOP xyz lc).2 (ix3 b s k) = word (near xyz lc b s k) :=
  topK_at _ _ b s k

theorem before_iff (b : Fin 16) (s : Fin 512) (p q : Fin 8192) : before xyz lc b s p q = true ↔ dOf xyz lc b s p < dOf xyz lc b s q := by
  unfold before
  rw [Ideal.cmpfTotal_def]
  have e : ∀ p, Host.negf (D2 xyz lc) (ix3 b s p) = - dOf xyz lc b s p := by
    intro p
    rw [← D2_at]
    rfl
  rw [e, e]
  simp only [Ideal.cmp, CmpDirection.ordered]
  rw [beq_iff_eq]
  by_cases h : dOf xyz lc b s p < dOf xyz lc b s q
  · simp [h, EReal.neg_lt_neg_iff]
  · simp [h, EReal.neg_lt_neg_iff]

theorem near_sorted (b : Fin 16) (s : Fin 512) : Sorted (dOf xyz lc b s) (near xyz lc b s) := sorted_of _ _ (before_iff xyz lc b s)

/-- The distance of the sixteenth nearest point. -/
def FAR : FVec Ideal Cert.Pre_spread_out.S16x512x1 .f32 :=
  Host.negf (extractStridedSlice Cert.Pre_spread_out.S16x512x1 ![0, 0, 15] (TOP xyz lc).1 Cert.Pre_spread_out.Facts.slices_S16x512x16_S16x512x1_0_0_15)

theorem far_at (b : Fin 16) (s : Fin 512) : FAR xyz lc (ix3 b s 0) = dOf xyz lc b s (near xyz lc b s 15) := by
  pointwise [FAR]
  rw [(top_at xyz lc b s 15).1]
  pointwise
  rw [D2_at, neg_neg]

/-- Whether each point is within the sixteenth distance. -/
def WITHIN : IVec S16x512x8192 1 :=
  cmpf .ole (D2 xyz lc) (broadcastInDim S16x512x8192 (![0, 1, 2] : Fin 3 → Fin 3) Cert.Pre_spread_out.Facts.bcast_S16x512x1_S16x512x8192_0_1_2 (FAR xyz lc))

/-- How many points of each column are. -/
def COUNT : IVec Cert.Pre_spread_out.S16x512x128 32 :=
  Host.reduce IntOp.addi (extui 32 (shapeCast Cert.Pre_spread_out.S16x512x64x128 (WITHIN xyz lc) Cert.Pre_spread_out.Facts.shapeCasts_S16x512x8192_S16x512x64x128) Cert.Pre_spread_out.Facts.natLt_1_32)
    (constantI S_ 32 0#32) Cert.Pre_spread_out.Facts.reducesTo_S16x512x64x128_S16x512x128_d2 h_S_

theorem fn_eq : Cert.Pre_spread_out.fn (F := Ideal) xyz feat lc
    = andi (cmpi .sle (COUNT xyz lc) (broadcastInDim Cert.Pre_spread_out.S16x512x128 ![] Cert.Pre_spread_out.Facts.bcast_S_S16x512x128 (constantI S_ 32 5#32)))
        (broadcastInDim Cert.Pre_spread_out.S16x512x128 ![0, 1, 2] Cert.Pre_spread_out.Facts.bcast_S16x512x1_S16x512x128_0_1_2
          (cmpf .olt (FAR xyz lc) (broadcastInDim Cert.Pre_spread_out.S16x512x1 ![] Cert.Pre_spread_out.Facts.bcast_S_S16x512x1 (constant (F := Ideal) S_ .f32 0x7F800000#32)))) := rfl

/-- Adding up ones counts. -/
theorem sum_ones {ι : Type} (P : ι → Bool) (L : List ι) (hL : L.length ≤ 64) :
    (List.foldr IntOp.addi 0#32 (L.map fun x => BitVec.setWidth 32 (BitVec.ofBool (P x)))).toNat = L.countP P := by
  induction L with
  | nil => rfl
  | cons a L ih =>
    have hl : L.length + 1 ≤ 64 := hL
    have h := ih (by omega)
    have hc : L.countP P ≤ L.length := List.countP_le_length
    rw [List.map_cons, List.foldr_cons, List.countP_cons]
    show (_ + _ : BitVec 32).toNat = _
    rw [BitVec.toNat_add, h]
    cases P a
    · show (0 + L.countP P) % 2 ^ 32 = L.countP P + 0
      omega
    · show (1 + L.countP P) % 2 ^ 32 = L.countP P + 1
      omega

theorem count_at (b : Fin 16) (s : Fin 512) (l : Fin 128) :
    (COUNT xyz lc (ix3 b s l)).toNat = (lane (dOf xyz lc b s) l).countP fun e => decide (e.1 ≤ dOf xyz lc b s (near xyz lc b s 15)) := by
  unfold COUNT lane
  pointwise [WITHIN]
  rw [List.countP_map]
  refine (sum_ones (fun x : Fin 64 => decide (D2 xyz lc (ix3 b s (pt x l)) ≤ FAR xyz lc (ix3 b s 0))) (List.finRange 64) (by simp)).trans ?_
  refine List.countP_congr fun x _ => ?_
  rw [D2_at, far_at]
  rfl

theorem both {x y : Bool} (h : BitVec.ofBool x &&& BitVec.ofBool y = 1#1) : x = true ∧ y = true := by
  revert h
  cases x <;> cases y <;> decide

theorem spread_of (h : Cert.Pre_spread_out.fn (F := Ideal) xyz feat lc = fun _ => 1#1) (b : Fin 16) (s : Fin 512) :
    Spread (dOf xyz lc b s) (near xyz lc b s) := by
  have hl : ∀ l : Fin 128, (COUNT xyz lc (ix3 b s l)).sle 5#32 = true ∧ dOf xyz lc b s (near xyz lc b s 15) < ⊤ := by
    intro l
    have e := congrFun ((fn_eq xyz feat lc).symm.trans h) (ix3 b s l)
    revert e
    pointwise
    rw [far_at, show Ideal.ofBits FTy.f32 2139095040#32 = ⊤ by simp [Ideal.ofBits, Ideal.ieee]]
    intro e
    have e' := both (x := (COUNT xyz lc (ix3 b s l)).sle 5#32) e
    rw [decide_eq_true_iff] at e'
    exact e'
  refine ⟨(hl 0).2, fun l => ?_⟩
  have hc : (lane (dOf xyz lc b s) l).countP (fun e => decide (e.1 ≤ dOf xyz lc b s (near xyz lc b s 15))) ≤ 64 :=
    List.countP_le_length.trans (by simp [lane])
  have h1 := (hl l).1
  rw [← count_at] at hc ⊢
  rw [BitVec.sle_iff_toInt_le, BitVec.toInt_eq_toNat_of_lt (by omega)] at h1
  have h5 : (5#32).toInt = 5 := by decide
  omega

end

/-! ### The rows picked -/

/-- The indices as the gather takes them: a negative one counted from the end. -/
def WRAP (ix : IVec S16x512x16 32) : IVec S16x512x16x1 32 :=
  broadcastInDim S16x512x16x1 ![0, 1, 2] bcast_S16x512x16_S16x512x16x1_0_1_2
    (select (cmpi .slt ix (broadcastInDim S16x512x16 ![] bcast_S_S16x512x16 (constantI S_ 32 0#32)))
      (addi ix (broadcastInDim S16x512x16 ![] bcast_S_S16x512x16 (constantI S_ 32 8192#32))) ix)

/-- The coordinates picked by index. -/
def ROWS3 (x : FVec Ideal S16x8192x3 .f32) (ix : IVec S16x512x16 32) : FVec Ideal S16x512x16x3 .f32 :=
  Host.gather gather_S16x8192x3_S16x512x16x1_S16x512x16x3_3_1_0_0_1_3_113 x (WRAP ix)

/-- The features picked by index. -/
def ROWS128 (x : FVec Ideal S16x8192x128 .f32) (ix : IVec S16x512x16 32) : FVec Ideal S16x512x16x128 .f32 :=
  Host.gather gather_S16x8192x128_S16x512x16x1_S16x512x16x128_3_1_0_0_1_3_11128 x (WRAP ix)

end Cert.TopkRef

end
-- ==== Proof.TopkValue.lean ====
/-
  The kernel's two results: what the launch leaves in its output array, read through the host operations around it, are the positions of the nearest
  points; the rows they pick are the reference's.
-/
module

public import proofs.«01_k».proof.Proof.TopkRun
public import proofs.«01_k».proof.Proof.TopkLoop
public import proofs.«01_k».proof.Proof.TopkRef
public import proofs.«01_k».proof.Proof.Gen.Kernel2Ideal.Frame
public import Idealize.ShloMosaic.Lib.Pipeline.ValueKit
public import Idealize.ShloMosaic.Lib.Claim
public import Idealize.ShloMosaic.Lib.Pointwise

@[expose] public section

set_option maxRecDepth 16384

noncomputable section

namespace Cert.TopkValue

open Idealize.ShloMosaic Idealize.ShloMosaic.TcCoe Idealize.SL.Sem Cert.Kernel2Ideal Cert.Kernel2Ideal.Gen Cert.Kernel2Ideal.Run
open Cert.Nearest (word pt)
open Cert.TopkRef (dOf near TOP ROWS3 ROWS128)

variable (m : (ℓ : Loc nD τ sig) → Buf (Elt Ideal) ℓ) (c : Dev nD)

/-- The clouds' coordinates, as launched. -/
def xyz : FVec Ideal S16x8192x3 .f32 := m ((c : Thread nD τ).loc main_arg0)

/-- The clouds' features, as launched. -/
def feat : FVec Ideal S16x8192x128 .f32 := m ((c : Thread nD τ).loc main_arg1)

/-- The samples' coordinates, as launched. -/
def lc : FVec Ideal S16x512x3 .f32 := m ((c : Thread nD τ).loc main_arg2)

/-- The sample at row `r` of block `R`. -/
def smp (R : Fin 32) (r : Fin 16) : Fin 512 := ⟨(R : ℕ) * 16 + r, by omega⟩

/-! ### The host operations before the launch -/

theorem in0 : V m c main_call0_v12 = fun i => xyz m c (ix3 (i 0) (pt (i 1) (i 2)) 0) := by
  funext i
  idx_vars i
  unfold V V0 xyz
  simp only [List.flatten_cons, List.flatten_nil, List.append_nil]
  after_results
  pointwise
  show extractStridedSlice S16x8192x1 ![0, 0, 0] (m (c, Proc.tc.devRef main_arg0) : S16x8192x3.Idx → EReal) slices_S16x8192x3_S16x8192x1_0_0_0 (ix3 i0 (pt i1 i2) 0) = _
  pointwise

theorem in1 : V m c main_call0_v13 = fun i => xyz m c (ix3 (i 0) (pt (i 1) (i 2)) 1) := by
  funext i
  idx_vars i
  unfold V V0 xyz
  simp only [List.flatten_cons, List.flatten_nil, List.append_nil]
  after_results
  pointwise
  show extractStridedSlice S16x8192x1 ![0, 0, 1] (m (c, Proc.tc.devRef main_arg0) : S16x8192x3.Idx → EReal) slices_S16x8192x3_S16x8192x1_0_0_1 (ix3 i0 (pt i1 i2) 0) = _
  pointwise

theorem in2 : V m c main_call0_v14 = fun i => xyz m c (ix3 (i 0) (pt (i 1) (i 2)) 2) := by
  funext i
  idx_vars i
  unfold V V0 xyz
  simp only [List.flatten_cons, List.flatten_nil, List.append_nil]
  after_results
  pointwise
  show extractStridedSlice S16x8192x1 ![0, 0, 2] (m (c, Proc.tc.devRef main_arg0) : S16x8192x3.Idx → EReal) slices_S16x8192x3_S16x8192x1_0_0_2 (ix3 i0 (pt i1 i2) 0) = _
  pointwise

theorem in3 : V m c main_call0_v15 = fun i => lc m c (ix3 (i 0) (smp (i 1) (i 2)) 0) := by
  funext i
  idx_vars i
  obtain rfl : i3 = 0 := Subsingleton.elim _ _
  unfold V V0 lc
  simp only [List.flatten_cons, List.flatten_nil, List.append_nil]
  after_results
  pointwise
  show extractStridedSlice S16x512x1 ![0, 0, 0] (m (c, Proc.tc.devRef main_arg2) : S16x512x3.Idx → EReal) slices_S16x512x3_S16x512x1_0_0_0 (ix3 i0 (smp i1 i2) 0) = _
  pointwise

theorem in4 : V m c main_call0_v16 = fun i => lc m c (ix3 (i 0) (smp (i 1) (i 2)) 1) := by
  funext i
  idx_vars i
  obtain rfl : i3 = 0 := Subsingleton.elim _ _
  unfold V V0 lc
  simp only [List.flatten_cons, List.flatten_nil, List.append_nil]
  after_results
  pointwise
  show extractStridedSlice S16x512x1 ![0, 0, 1] (m (c, Proc.tc.devRef main_arg2) : S16x512x3.Idx → EReal) slices_S16x512x3_S16x512x1_0_0_1 (ix3 i0 (smp i1 i2) 0) = _
  pointwise

theorem in5 : V m c main_call0_v17 = fun i => lc m c (ix3 (i 0) (smp (i 1) (i 2)) 2) := by
  funext i
  idx_vars i
  obtain rfl : i3 = 0 := Subsingleton.elim _ _
  unfold V V0 lc
  simp only [List.flatten_cons, List.flatten_nil, List.append_nil]
  after_results
  pointwise
  show extractStridedSlice S16x512x1 ![0, 0, 2] (m (c, Proc.tc.devRef main_arg2) : S16x512x3.Idx → EReal) slices_S16x512x3_S16x512x1_0_0_2 (ix3 i0 (smp i1 i2) 0) = _
  pointwise

/-! ### The blocks -/

/-- Every window's block index at each point. -/
theorem idx : ∀ t : Fin cfg0.N, win0_0.index t = ![(grid0.coords t 0).val, 0, 0] ∧ win0_1.index t = ![(grid0.coords t 0).val, 0, 0] ∧ win0_2.index t = ![(grid0.coords t 0).val, 0, 0] ∧ win0_3.index t = ![(grid0.coords t 0).val, (grid0.coords t 1).val, 0, 0] ∧ win0_4.index t = ![(grid0.coords t 0).val, (grid0.coords t 1).val, 0, 0] ∧ win0_5.index t = ![(grid0.coords t 0).val, (grid0.coords t 1).val, 0, 0] ∧ win0_6.index t = ![(grid0.coords t 0).val, (grid0.coords t 1).val, 0, 0] :=
  (by decide +kernel : ∀ t : Fin grid0.N, _)

theorem iblk0 (t : Fin cfg0.N) (j : Fin 64) (l : Fin 128) :
    (iblk m c 0 t : FVec Ideal S1x64x128 .f32) (ix3 0 j l) = xyz m c (ix3 (grid0.coords t 0) (pt j l) 0) := by
  have e : (iblk m c 0 t : FVec Ideal S1x64x128 .f32) (ix3 0 j l) = (V m c main_call0_v12 : FVec Ideal S16x64x128 .f32) (ix3 (grid0.coords t 0) j l) := by
    blk_ext! [iblk, idx t]
  rw [e, in0]
  rfl

theorem iblk1 (t : Fin cfg0.N) (j : Fin 64) (l : Fin 128) :
    (iblk m c 1 t : FVec Ideal S1x64x128 .f32) (ix3 0 j l) = xyz m c (ix3 (grid0.coords t 0) (pt j l) 1) := by
  have e : (iblk m c 1 t : FVec Ideal S1x64x128 .f32) (ix3 0 j l) = (V m c main_call0_v13 : FVec Ideal S16x64x128 .f32) (ix3 (grid0.coords t 0) j l) := by
    blk_ext! [iblk, idx t]
  rw [e, in1]
  rfl

theorem iblk2 (t : Fin cfg0.N) (j : Fin 64) (l : Fin 128) :
    (iblk m c 2 t : FVec Ideal S1x64x128 .f32) (ix3 0 j l) = xyz m c (ix3 (grid0.coords t 0) (pt j l) 2) := by
  have e : (iblk m c 2 t : FVec Ideal S1x64x128 .f32) (ix3 0 j l) = (V m c main_call0_v14 : FVec Ideal S16x64x128 .f32) (ix3 (grid0.coords t 0) j l) := by
    blk_ext! [iblk, idx t]
  rw [e, in2]
  rfl

theorem iblk3 (t : Fin cfg0.N) (r : Fin 16) :
    (iblk m c 3 t : FVec Ideal S1x1x16x1 .f32) (ix4 0 0 r 0) = lc m c (ix3 (grid0.coords t 0) (smp (grid0.coords t 1) r) 0) := by
  have e : (iblk m c 3 t : FVec Ideal S1x1x16x1 .f32) (ix4 0 0 r 0) = (V m c main_call0_v15 : FVec Ideal S16x32x16x1 .f32) (ix4 (grid0.coords t 0) (grid0.coords t 1) r 0) := by
    blk_ext! [iblk, idx t]
  rw [e, in3]
  rfl

theorem iblk4 (t : Fin cfg0.N) (r : Fin 16) :
    (iblk m c 4 t : FVec Ideal S1x1x16x1 .f32) (ix4 0 0 r 0) = lc m c (ix3 (grid0.coords t 0) (smp (grid0.coords t 1) r) 1) := by
  have e : (iblk m c 4 t : FVec Ideal S1x1x16x1 .f32) (ix4 0 0 r 0) = (V m c main_call0_v16 : FVec Ideal S16x32x16x1 .f32) (ix4 (grid0.coords t 0) (grid0.coords t 1) r 0) := by
    blk_ext! [iblk, idx t]
  rw [e, in4]
  rfl

theorem iblk5 (t : Fin cfg0.N) (r : Fin 16) :
    (iblk m c 5 t : FVec Ideal S1x1x16x1 .f32) (ix4 0 0 r 0) = lc m c (ix3 (grid0.coords t 0) (smp (grid0.coords t 1) r) 2) := by
  have e : (iblk m c 5 t : FVec Ideal S1x1x16x1 .f32) (ix4 0 0 r 0) = (V m c main_call0_v17 : FVec Ideal S16x32x16x1 .f32) (ix4 (grid0.coords t 0) (grid0.coords t 1) r 0) := by
    blk_ext! [iblk, idx t]
  rw [e, in5]
  rfl

/-- The precondition, at one device. -/
abbrev Pre : Prop := Cert.Pre_spread_out.fn (F := Ideal) (xyz m c) (feat m c) (lc m c) = fun _ => 1#1

/-- What each point leaves in its block. -/
theorem outAt_at (h : Pre m c) (t : Fin cfg0.N) (r j : Fin 16) :
    outAt m c t (ix4 0 0 r j) = word (near (xyz m c) (lc m c) (grid0.coords t 0) (smp (grid0.coords t 1) r) j) := by
  have hs := Cert.TopkRef.near_sorted (xyz m c) (lc m c) (grid0.coords t 0) (smp (grid0.coords t 1) r)
  have hp := Cert.TopkRef.spread_of (xyz m c) (feat m c) (lc m c) h (grid0.coords t 0) (smp (grid0.coords t 1) r)
  unfold Cert.TopkRef.dOf at hs hp
  rw [← iblk3 m c t r, ← iblk4 m c t r, ← iblk5 m c t r] at hs hp
  exact Cert.TopkLoop.out_at c (grid0.coords t) (ms0 t) (hs0 t) (ms1 t) (hs1 t) (ms2 t) (hs2 t) (ms3 t) (hs3 t) (ms4 t) (hs4 t) (ms5 t) (hs5 t) (ms6 t) (hs6 t)
    (iblk m c 0 t) (iblk m c 1 t) (iblk m c 2 t) (iblk m c 3 t) (iblk m c 4 t) (iblk m c 5 t)
    (iblk0 m c t) (iblk1 m c t) (iblk2 m c t) r j hs hp

/-- The positions the launch leaves. -/
def POS : IVec S16x32x16x16 32 := fun i => word (near (xyz m c) (lc m c) (i 0) (smp (i 1) (i 2)) (i 3))

theorem final6 (h : Pre m c) : (dats m 0 c).arrAt 6 cfg0.N = POS m c := by
  refine (dats m 0 c).arrAt_eq_of_covers 6 (POS m c) (by decide +kernel) fun t hf y => ?_
  blk_simp
  rw [after6]
  have e : ((cfg0.win 6).blk t).view.emb y = (ix4 (grid0.coords t 0) (grid0.coords t 1) (y 2 : Fin 16) (y 3 : Fin 16) : S16x32x16x16.Idx) := by
    blk_ext! [idx t]
  have ey : y = (ix4 0 0 (y 2 : Fin 16) (y 3 : Fin 16) : S1x1x16x16.Idx) := by
    funext a
    fin_cases a
    · exact Subsingleton.elim (α := Fin 1) _ _
    · exact Subsingleton.elim (α := Fin 1) _ _
    · rfl
    · rfl
  refine ((congrArg (outAt m c t) ey).trans (outAt_at m c h t (y 2 : Fin 16) (y 3 : Fin 16))).trans ?_
  exact (congrArg (POS m c) e).symm

/-! ### The host operations after the launch -/

theorem xyz_of (W : Valuation τ sig (Elt Ideal)) : StableHlo.after hostOps1 W (Proc.devRef .tc main_v0_0)
    = ROWS3 (W (Proc.devRef .tc main_arg0)) (shapeCast S16x512x16 (W (Proc.devRef .tc main_call0_v18) : IVec S16x32x16x16 32) shapeCasts_S16x32x16x16_S16x512x16) := by
  after_results
  rfl

theorem feat_of (W : Valuation τ sig (Elt Ideal)) : StableHlo.after hostOps1 W (Proc.devRef .tc main_v0_1)
    = ROWS128 (W (Proc.devRef .tc main_arg1)) (shapeCast S16x512x16 (W (Proc.devRef .tc main_call0_v18) : IVec S16x32x16x16 32) shapeCasts_S16x32x16x16_S16x512x16) := by
  after_results
  rfl

/-- The positions, sample by sample, are the reference's. -/
theorem pos_eq : shapeCast S16x512x16 (POS m c) shapeCasts_S16x32x16x16_S16x512x16 = (TOP (xyz m c) (lc m c)).2 := by
  funext i
  idx_vars i
  refine Eq.trans ?_ (Cert.TopkRef.top_at (xyz m c) (lc m c) i0 i1 i2).2.symm
  pointwise [POS]
  have e : ∀ h₁ h₂, smp ⟨(i1 : ℕ) / 16, h₁⟩ ⟨(i1 : ℕ) % 16, h₂⟩ = i1 := fun _ _ => Fin.ext (Nat.div_add_mod' (i1 : ℕ) 16)
  rw [e]

/-- What the host operations after the launch read. -/
abbrev W : Valuation τ sig (Elt Ideal) := Pipeline.withArrays spec0 c (V0 m c) fun w => (dats m 0 c).arrAt w (cfgs 0).N

theorem arr_inj : Function.Injective (Pipeline.arrRef spec0) := by decide

theorem W6 (h : Pre m c) : W m c (Proc.devRef .tc main_call0_v18) = POS m c :=
  (Pipeline.withArrays_arr spec0 arr_inj c (V0 m c) (fun w => (dats m 0 c).arrAt w (cfgs 0).N) 6).trans (final6 m c h)

theorem Wxyz : W m c (Proc.devRef .tc main_arg0) = xyz m c :=
  (Pipeline.withArrays_of_ne spec0 c (V0 m c) _ main_arg0 (by exact (by decide : ∀ w, Pipeline.arrRef spec0 w ≠ main_arg0))).trans (V_main_arg0 m c)

theorem Wfeat : W m c (Proc.devRef .tc main_arg1) = feat m c :=
  (Pipeline.withArrays_of_ne spec0 c (V0 m c) _ main_arg1 (by exact (by decide : ∀ w, Pipeline.arrRef spec0 w ≠ main_arg1))).trans (V_main_arg1 m c)

/-- The first result: the nearest points' coordinates. -/
theorem coords (h : Pre m c) : Pipeline.afterTail₀ cfgs (dats m) 0 (V0 m) [hostOps1] c main_v0_0 = ROWS3 (xyz m c) (TOP (xyz m c) (lc m c)).2 := by
  refine (xyz_of (W m c)).trans ?_
  rw [W6 m c h, Wxyz, pos_eq]

/-- The second result: the nearest points' features. -/
theorem feats (h : Pre m c) : Pipeline.afterTail₀ cfgs (dats m) 0 (V0 m) [hostOps1] c main_v0_1 = ROWS128 (feat m c) (TOP (xyz m c) (lc m c)).2 := by
  refine (feat_of (W m c)).trans ?_
  rw [W6 m c h, Wfeat, pos_eq]

/-- The run: both results, and the arguments unchanged. -/
theorem run (ρ : Dev nD → PrngReg) (h : ∀ c, Pre m c) :
    θ_run (defs (F := Ideal)) (onTc (τ := τ) (main (F := Ideal))) ⟨m, fun _ => 0, ρ⟩ (fun r => ∀ c : Dev nD,
      r.2.mem ((c.tc : Thread nD τ).loc main_v0_0) = ROWS3 (xyz m c) (TOP (xyz m c) (lc m c)).2
      ∧ r.2.mem ((c.tc : Thread nD τ).loc main_v0_1) = ROWS128 (feat m c) (TOP (xyz m c) (lc m c)).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).2 main_v0_0 (by decide)).trans (coords m c (h c)), ((hr.1 c).2 main_v0_1 (by decide)).trans (feats m c (h c)), hr.2 c⟩)
    (θ_run_and (run_main m ρ) (unchanged m ρ))

end Cert.TopkValue

end
-- ==== Proof.lean ====
/- The certificate's claims, for each of the kernel's two calls: the call, its idealization and its reference run and leave their arguments and every
   counter as they were; the idealization is the call's own text; and over the extended reals the idealization and the reference give equal results —
   for the second call, wherever no column holds more near points than it has slots for. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_spread_out
public import proofs.«01_k».proof.Proof.KernelValue
public import proofs.«01_k».proof.Proof.RefStepRun
public import proofs.«01_k».proof.Proof.RefRead
public import proofs.«01_k».proof.Proof.TopkRun
public import proofs.«01_k».proof.Proof.TopkRunPrinted
public import proofs.«01_k».proof.Proof.TopkRef
public import proofs.«01_k».proof.Proof.TopkValue
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's run at the states of its own loop. -/
theorem ref_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r => ∀ c : Dev ReferenceIdeal.nD,
      r.2.mem ((c : Thread ReferenceIdeal.nD ReferenceIdeal.τ).loc ReferenceIdeal.main_v5)
        = ReferenceIdeal.Step.R_main_v5 (RefRead.iter (m ((c : Thread ReferenceIdeal.nD ReferenceIdeal.τ).loc ReferenceIdeal.main_arg0)) 511) (m ((c : Thread ReferenceIdeal.nD ReferenceIdeal.τ).loc ReferenceIdeal.main_arg0))
      ∧ r.2.mem ((c : Thread ReferenceIdeal.nD ReferenceIdeal.τ).loc ReferenceIdeal.main_v7)
        = ReferenceIdeal.Step.R_main_v7 (RefRead.iter (m ((c : Thread ReferenceIdeal.nD ReferenceIdeal.τ).loc ReferenceIdeal.main_arg0)) 511) (m ((c : Thread ReferenceIdeal.nD ReferenceIdeal.τ).loc ReferenceIdeal.main_arg1))
      ∧ r.2.mem ((c : Thread ReferenceIdeal.nD ReferenceIdeal.τ).loc ReferenceIdeal.main_arg0) = m ((c : Thread ReferenceIdeal.nD ReferenceIdeal.τ).loc ReferenceIdeal.main_arg0)
      ∧ r.2.mem ((c : Thread ReferenceIdeal.nD ReferenceIdeal.τ).loc ReferenceIdeal.main_arg1) = m ((c : Thread ReferenceIdeal.nD ReferenceIdeal.τ).loc ReferenceIdeal.main_arg1) :=
  ReferenceIdeal.StepRun.run_iter (F := Ideal) m ρ (fun c => RefRead.iter (m ((c : Thread ReferenceIdeal.nD ReferenceIdeal.τ).loc ReferenceIdeal.main_arg0)))
    (fun _ => rfl) (fun _ _ => rfl)

/-- The reference runs, its arguments end unchanged, and every counter (it has none) ends at zero. -/
theorem ref_frame : quiescent_ReferenceIdeal (hReferenceIdeal := ReferenceIdeal.Gen.facts) := fun m ρ _ =>
  (θ_run _ _ _).mono (fun r h => ⟨fun c => ⟨(h c).2.2.1, (h c).2.2.2⟩, sem_eq_zero_of_no_sems rfl r.2⟩) (ref_run m ρ)

/-- The kernel and the reference end with equal results over the extended reals. -/
theorem algebraic : algebraic_KernelIdeal_ReferenceIdeal (hKernelIdeal := KernelIdeal.Gen.facts) (hReferenceIdeal := ReferenceIdeal.Gen.facts) := by
  intro m ρ m' ρ' _ hm
  refine ⟨fun c i => KernelValue.xyz m c (ix3 (i 0) (KernelValue.sel m c (i 0) (i 1 : Fin 512)) (i 2)),
    fun c i => KernelValue.feat m c (ix3 (i 0) (KernelValue.sel m c (i 0) (i 1 : Fin 512)) (i 2)), KernelValue.run m ρ, ?_⟩
  refine (θ_run _ _ _).mono (fun r h c => ⟨(h c).1.trans ?_, (h c).2.1.trans ?_, (h c).2.2.1, (h c).2.2.2⟩) (ref_run m' ρ')
  · rw [(hm c).1]
    funext i
    idx_vars i
    exact RefRead.res_coords _ i0 i1 i2
  · rw [(hm c).1, (hm c).2]
    funext i
    idx_vars i
    exact RefRead.res_feats _ _ i0 i1 i2

/-- The second reference's run: the rows picked by the nearest points' positions. -/
theorem ref2_run (m : (ℓ : Loc Reference2Ideal.nD Reference2Ideal.τ Reference2Ideal.sig) → Buf (Elt Ideal) ℓ) (ρ : Dev Reference2Ideal.nD → PrngReg) :
    θ_run (Reference2Ideal.defs (F := Ideal)) (onTc (τ := Reference2Ideal.τ) (Reference2Ideal.main (F := Ideal))) ⟨m, fun _ => 0, ρ⟩ fun r => ∀ c : Dev Reference2Ideal.nD,
      r.2.mem ((c.tc : Thread Reference2Ideal.nD Reference2Ideal.τ).loc Reference2Ideal.main_v14)
        = TopkRef.ROWS3 (m ((c.tc : Thread Reference2Ideal.nD Reference2Ideal.τ).loc Reference2Ideal.main_arg0))
            (TopkRef.TOP (m ((c.tc : Thread Reference2Ideal.nD Reference2Ideal.τ).loc Reference2Ideal.main_arg0)) (m ((c.tc : Thread Reference2Ideal.nD Reference2Ideal.τ).loc Reference2Ideal.main_arg2))).2
      ∧ r.2.mem ((c.tc : Thread Reference2Ideal.nD Reference2Ideal.τ).loc Reference2Ideal.main_v21)
        = TopkRef.ROWS128 (m ((c.tc : Thread Reference2Ideal.nD Reference2Ideal.τ).loc Reference2Ideal.main_arg1))
            (TopkRef.TOP (m ((c.tc : Thread Reference2Ideal.nD Reference2Ideal.τ).loc Reference2Ideal.main_arg0)) (m ((c.tc : Thread Reference2Ideal.nD Reference2Ideal.τ).loc Reference2Ideal.main_arg2))).2
      ∧ r.2.mem ((c.tc : Thread Reference2Ideal.nD Reference2Ideal.τ).loc Reference2Ideal.main_arg0) = m ((c.tc : Thread Reference2Ideal.nD Reference2Ideal.τ).loc Reference2Ideal.main_arg0)
      ∧ r.2.mem ((c.tc : Thread Reference2Ideal.nD Reference2Ideal.τ).loc Reference2Ideal.main_arg1) = m ((c.tc : Thread Reference2Ideal.nD Reference2Ideal.τ).loc Reference2Ideal.main_arg1)
      ∧ r.2.mem ((c.tc : Thread Reference2Ideal.nD Reference2Ideal.τ).loc Reference2Ideal.main_arg2) = m ((c.tc : Thread Reference2Ideal.nD Reference2Ideal.τ).loc Reference2Ideal.main_arg2) := by
  hlo_run
  · rfl
  · rfl

/-- The second reference runs, its arguments end unchanged, and every counter (it has none) ends at zero. -/
theorem ref2_frame : quiescent_Reference2Ideal (hReference2Ideal := Reference2Ideal.Gen.facts) := fun m ρ _ =>
  (θ_run _ _ _).mono (fun r h => ⟨fun c => (h c).2.2, sem_eq_zero_of_no_sems rfl r.2⟩) (ref2_run m ρ)

/-- The second call and its reference end with equal results over the extended reals. -/
theorem algebraic2 : algebraic_Kernel2Ideal_Reference2Ideal_pre_spread_out (hKernel2Ideal := Kernel2Ideal.Gen.facts) (hReference2Ideal := Reference2Ideal.Gen.facts)
    (hPre_spread_out := Pre_spread_out.Gen.facts) := by
  intro m ρ m' ρ' hp hm
  refine ⟨fun c => TopkRef.ROWS3 (TopkValue.xyz m c) (TopkRef.TOP (TopkValue.xyz m c) (TopkValue.lc m c)).2,
    fun c => TopkRef.ROWS128 (TopkValue.feat m c) (TopkRef.TOP (TopkValue.xyz m c) (TopkValue.lc m c)).2, TopkValue.run m ρ hp, ?_⟩
  refine (θ_run _ _ _).mono (fun r h c => ⟨(h c).1.trans ?_, (h c).2.1.trans ?_, (h c).2.2⟩) (ref2_run m' ρ')
  · rw [(hm c).1, (hm c).2.2]
    rfl
  · rw [(hm c).1, (hm c).2.1, (hm c).2.2]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_spread_out.Gen.facts,
  fun m ρ _ => Cert.Kernel.Gen.frame m ρ, fun m ρ _ => Cert.KernelIdeal.Gen.frame m ρ, ref_frame,
  fun m ρ _ => Cert.Kernel2.Run.runs m ρ, fun m ρ _ => Cert.Kernel2Ideal.Run.runs m ρ, fun m ρ _ => Cert.Kernel2Ideal.Run.runs m ρ,
  ref2_frame, fun m ρ _ => ref2_frame m ρ trivial, trivial, algebraic, trivial, algebraic2⟩

end Cert.Proof

end
